-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights [hPre_weights : Cert.Pre_weights.Facts] (m : (ℓ : Loc Cert.KernelIdeal.nD Cert.KernelIdeal.τ Cert.KernelIdeal.sig) → Buf (Elt Ideal) ℓ) : Prop :=
  ∀ c : Dev Cert.KernelIdeal.nD,
    (Cert.Pre_weights.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights [hPre_weights : Cert.Pre_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_weights [hKernelIdeal : Cert.KernelIdeal.Facts] [hPre_weights : Cert.Pre_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_weights [hReferenceIdeal : Cert.ReferenceIdeal.Facts] [hPre_weights : Cert.Pre_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_weights [hKernelIdeal : Cert.KernelIdeal.Facts] [hReferenceIdeal : Cert.ReferenceIdeal.Facts] [hPre_weights : Cert.Pre_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_weights : Cert.Pre_weights.Facts),
    quiescent_Kernel (hKernel := hKernel)
    ∧ quiescent_KernelIdeal (hKernelIdeal := hKernelIdeal)
    ∧ quiescent_KernelIdeal_pre_weights (hKernelIdeal := hKernelIdeal) (hPre_weights := hPre_weights)
    ∧ quiescent_ReferenceIdeal (hReferenceIdeal := hReferenceIdeal)
    ∧ quiescent_ReferenceIdeal_pre_weights (hReferenceIdeal := hReferenceIdeal) (hPre_weights := hPre_weights)
    ∧ preserves_Kernel_KernelIdeal
    ∧ algebraic_KernelIdeal_ReferenceIdeal_pre_weights (hKernelIdeal := hKernelIdeal) (hReferenceIdeal := hReferenceIdeal) (hPre_weights := hPre_weights)
-- ==== Pre_weights.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel

variable [Facts]

def fn {F : FTy → Type} [FloatOps F] (main_arg0 : FVec F S32x1000000 .f32) : IVec S_ 1 :=
  let main_cst : FVec F S_ .f32 := constant S_ .f32 0x00000000#32
  let main_v0 : FVec F S32x1000000 .f32 := broadcastInDim S32x1000000 ![] bcast_S_S32x1000000 main_cst
  let main_v1 : IVec S32x1000000 1 := cmpf .oge main_arg0 main_v0
  let main_c : IVec S_ 1 := constantI S_ 1 1#1
  let main_v2 : IVec S_ 1 := (fun x v => Host.reduce IntOp.andi x v reducesTo_S32x1000000_S_d0_1 h_S_) main_v1 main_c
  main_v2
-- ==== Kernel.lean ====
abbrev S32x1000000 : Shape := ⟨2, ![32, 1000000]⟩
abbrev S32x8x125000 : Shape := ⟨3, ![32, 8, 125000]⟩
abbrev S32x1x5 : Shape := ⟨3, ![32, 1, 5]⟩
abbrev S32x5 : Shape := ⟨2, ![32, 5]⟩
abbrev S1x8x6144 : Shape := ⟨3, ![1, 8, 6144]⟩
abbrev S1x1x5 : Shape := ⟨3, ![1, 1, 5]⟩
abbrev S5x8x6144 : Shape := ⟨3, ![5, 8, 6144]⟩
abbrev S8x6144 : Shape := ⟨2, ![8, 6144]⟩
abbrev S1 : Shape := ⟨1, ![1]⟩
abbrev S1x1x1 : Shape := ⟨3, ![1, 1, 1]⟩

abbrev nBuf : Space → Nat
  | .hbm => 4
  | .vmem => 4
  | .smem => 2
  | _ => 0

abbrev bufTy : (tb : Table) → Fin (tcTables nBuf tb) → BufTy
  | .hbm, ⟨0, _⟩ => ⟨S32x1000000, .f32⟩
  | .hbm, ⟨1, _⟩ => ⟨S32x8x125000, .f32⟩
  | .hbm, ⟨2, _⟩ => ⟨S32x1x5, .i32⟩
  | .hbm, ⟨3, _⟩ => ⟨S32x5, .i32⟩
  | .local _ .vmem, ⟨0, _⟩ => ⟨S1x8x6144, .f32⟩
  | .local _ .vmem, ⟨1, _⟩ => ⟨S1x8x6144, .f32⟩
  | .local _ .vmem, ⟨2, _⟩ => ⟨S5x8x6144, .f32⟩
  | .local _ .vmem, ⟨3, _⟩ => ⟨S5x8x6144, .i32⟩
  | .local _ .smem, ⟨0, _⟩ => ⟨S1x1x5, .i32⟩
  | .local _ .smem, ⟨1, _⟩ => ⟨S1x1x5, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 21], ![false, false]⟩

def k0_cond2 (i : grid0.Coords) : BitVec 1 :=
  let arg1 : BitVec 32 := BitVec.ofNat 32 (i 1).val
  let c20_i32 : BitVec 32 := 20#32
  let v1000 : BitVec 1 := Scalar.cmpi .eq arg1 c20_i32
  let v1001 : BitVec 32 := Scalar.extui v1000
  let c0_i32_361 : BitVec 32 := 0#32
  let v1002 : BitVec 1 := Scalar.cmpi .ne v1001 c0_i32_361
  v1002

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x5 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S32x1000000 : Shape := ⟨2, ![32, 1000000]⟩
abbrev S_ : Shape := ⟨0, ![]⟩
abbrev S32x5x1000000 : Shape := ⟨3, ![32, 5, 1000000]⟩
abbrev S32x1x1000000 : Shape := ⟨3, ![32, 1, 1000000]⟩
abbrev S32x5 : Shape := ⟨2, ![32, 5]⟩

abbrev nBuf : Space → Nat
  | .hbm => 266
  | .vmem => 0
  | .smem => 0
  | _ => 0

abbrev hbmTy0_0 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S32x1000000, .f32⟩
  | 5 => ⟨S32x5x1000000, .i32⟩
  | 6 => ⟨S32x5x1000000, .i32⟩
  | 7 => ⟨S32x5x1000000, .i32⟩
  | 8 => ⟨S_, .i32⟩
  | 9 => ⟨S32x5x1000000, .i32⟩
  | 10 => ⟨S32x5x1000000, .i32⟩
  | 11 => ⟨S_, .i32⟩
  | 12 => ⟨S32x5x1000000, .i32⟩
  | 13 => ⟨S32x5x1000000, .i32⟩
  | 14 => ⟨S32x5x1000000, .i32⟩
  | 15 => ⟨S32x5x1000000, .i32⟩
  | 16 => ⟨S_, .i32⟩
  | 17 => ⟨S32x5x1000000, .i32⟩
  | 18 => ⟨S_, .i32⟩
  | 19 => ⟨S32x5x1000000, .i32⟩
  | 20 => ⟨S32x5x1000000, .i32⟩
  | 21 => ⟨S_, .i32⟩
  | 22 => ⟨S32x5x1000000, .i32⟩
  | 23 => ⟨S32x5x1000000, .i32⟩
  | 24 => ⟨S32x5x1000000, .i32⟩
  | 25 => ⟨S_, .i32⟩
  | 26 => ⟨S32x5x1000000, .i32⟩
  | 27 => ⟨S32x5x1000000, .i32⟩
  | 28 => ⟨S_, .i32⟩
  | 29 => ⟨S32x5x1000000, .i32⟩
  | 30 => ⟨S32x5x1000000, .i32⟩
  | 31 => ⟨S32x5x1000000, .i32⟩
  | 32 => ⟨S32x5x1000000, .i32⟩
  | 33 => ⟨S32x5x1000000, .i32⟩
  | 34 => ⟨S_, .i32⟩
  | 35 => ⟨S32x5x1000000, .i32⟩
  | 36 => ⟨S32x5x1000000, .i32⟩
  | 37 => ⟨S_, .i32⟩
  | 38 => ⟨S32x5x1000000, .i32⟩
  | 39 => ⟨S32x5x1000000, .i32⟩
  | 40 => ⟨S32x5x1000000, .i32⟩
  | 41 => ⟨S32x5x1000000, .i32⟩
  | 42 => ⟨S32x5x1000000, .i32⟩
  | 43 => ⟨S_, .i32⟩
  | 44 => ⟨S32x5x1000000, .i32⟩
  | 45 => ⟨S32x5x1000000, .i32⟩
  | 46 => ⟨S_, .i32⟩
  | 47 => ⟨S32x5x1000000, .i32⟩
  | 48 => ⟨S32x5x1000000, .i32⟩
  | 49 => ⟨S32x5x1000000, .i32⟩
  | 50 => ⟨S32x5x1000000, .i32⟩
  | 51 => ⟨S32x5x1000000, .i32⟩
  | 52 => ⟨S_, .i32⟩
  | 53 => ⟨S32x5x1000000, .i32⟩
  | 54 => ⟨S32x5x1000000, .i32⟩
  | 55 => ⟨S_, .i32⟩
  | 56 => ⟨S32x5x1000000, .i32⟩
  | 57 => ⟨S32x5x1000000, .i32⟩
  | 58 => ⟨S32x5x1000000, .i32⟩
  | 59 => ⟨S32x5x1000000, .i32⟩
  | 60 => ⟨S_, .i32⟩
  | 61 => ⟨S32x5x1000000, .i32⟩
  | 62 => ⟨S32x5x1000000, .i32⟩
  | 63 => ⟨S_, .i32⟩
  | 64 => ⟨S32x5x1000000, .i32⟩
  | 65 => ⟨S32x5x1000000, .i32⟩
  | 66 => ⟨S32x5x1000000, .i32⟩
  | 67 => ⟨S_, .i32⟩
  | 68 => ⟨S32x5x1000000, .i32⟩
  | 69 => ⟨S32x5x1000000, .i32⟩
  | 70 => ⟨S_, .i32⟩
  | 71 => ⟨S32x5x1000000, .i32⟩
  | 72 => ⟨S32x5x1000000, .i32⟩
  | 73 => ⟨S32x5x1000000, .i32⟩
  | 74 => ⟨S32x5x1000000, .i32⟩
  | 75 => ⟨S32x5x1000000, .i32⟩
  | 76 => ⟨S_, .i32⟩
  | 77 => ⟨S32x5x1000000, .i32⟩
  | 78 => ⟨S32x5x1000000, .i32⟩
  | 79 => ⟨S_, .i32⟩
  | 80 => ⟨S32x5x1000000, .i32⟩
  | 81 => ⟨S32x5x1000000, .i32⟩
  | 82 => ⟨S32x5x1000000, .i32⟩
  | 83 => ⟨S32x5x1000000, .i32⟩
  | 84 => ⟨S32x5x1000000, .i32⟩
  | 85 => ⟨S_, .i32⟩
  | 86 => ⟨S32x5x1000000, .i32⟩
  | 87 => ⟨S32x5x1000000, .i32⟩
  | 88 => ⟨S_, .i32⟩
  | 89 => ⟨S32x5x1000000, .i32⟩
  | 90 => ⟨S32x5x1000000, .i32⟩
  | 91 => ⟨S32x5x1000000, .i32⟩
  | 92 => ⟨S32x5x1000000, .i32⟩
  | 93 => ⟨S32x5x1000000, .i32⟩
  | 94 => ⟨S_, .i32⟩
  | 95 => ⟨S32x5x1000000, .i32⟩
  | 96 => ⟨S32x5x1000000, .i32⟩
  | 97 => ⟨S_, .i32⟩
  | 98 => ⟨S32x5x1000000, .i32⟩
  | 99 => ⟨S32x5x1000000, .i32⟩
  | 100 => ⟨S32x5x1000000, .i32⟩
  | 101 => ⟨S32x5x1000000, .i32⟩
  | 102 => ⟨S_, .i32⟩
  | 103 => ⟨S32x5x1000000, .i32⟩
  | 104 => ⟨S32x5x1000000, .i32⟩
  | 105 => ⟨S_, .i32⟩
  | 106 => ⟨S32x5x1000000, .i32⟩
  | 107 => ⟨S32x5x1000000, .i32⟩
  | 108 => ⟨S32x5x1000000, .i32⟩
  | 109 => ⟨S_, .i32⟩
  | 110 => ⟨S32x5x1000000, .i32⟩
  | 111 => ⟨S32x5x1000000, .i32⟩
  | 112 => ⟨S_, .i32⟩
  | 113 => ⟨S32x5x1000000, .i32⟩
  | 114 => ⟨S32x5x1000000, .i32⟩
  | 115 => ⟨S32x5x1000000, .i32⟩
  | 116 => ⟨S32x5x1000000, .i32⟩
  | 117 => ⟨S32x5x1000000, .i32⟩
  | 118 => ⟨S_, .i32⟩
  | 119 => ⟨S32x5x1000000, .i32⟩
  | 120 => ⟨S32x5x1000000, .i32⟩
  | 121 => ⟨S_, .i32⟩
  | 122 => ⟨S32x5x1000000, .i32⟩
  | 123 => ⟨S32x5x1000000, .i32⟩
  | 124 => ⟨S32x5x1000000, .i32⟩
  | 125 => ⟨S32x5x1000000, .i32⟩
  | 126 => ⟨S32x5x1000000, .i32⟩
  | 127 => ⟨S_, .i32⟩
  | _ => ⟨S32x1000000, .f32⟩

abbrev hbmTy0_1 (i : Nat) : BufTy := match i % 128 with
  | 0 => ⟨S32x5x1000000, .i32⟩
  | 1 => ⟨S32x5x1000000, .i32⟩
  | 2 => ⟨S_, .i32⟩
  | 3 => ⟨S32x5x1000000, .i32⟩
  | 4 => ⟨S32x5x1000000, .i32⟩
  | 5 => ⟨S32x5x1000000, .i32⟩
  | 6 => ⟨S32x5x1000000, .i32⟩
  | 7 => ⟨S32x5x1000000, .i32⟩
  | 8 => ⟨S_, .i32⟩
  | 9 => ⟨S32x5x1000000, .i32⟩
  | 10 => ⟨S32x5x1000000, .i32⟩
  | 11 => ⟨S_, .i32⟩
  | 12 => ⟨S32x5x1000000, .i32⟩
  | 13 => ⟨S32x5x1000000, .i32⟩
  | 14 => ⟨S32x5x1000000, .i32⟩
  | 15 => ⟨S32x5x1000000, .i32⟩
  | 16 => ⟨S_, .i32⟩
  | 17 => ⟨S32x5x1000000, .i32⟩
  | 18 => ⟨S32x5x1000000, .i32⟩
  | 19 => ⟨S_, .i32⟩
  | 20 => ⟨S32x5x1000000, .i32⟩
  | 21 => ⟨S32x5x1000000, .i32⟩
  | 22 => ⟨S32x5x1000000, .i32⟩
  | 23 => ⟨S_, .i32⟩
  | 24 => ⟨S32x5x1000000, .i32⟩
  | 25 => ⟨S32x5x1000000, .i32⟩
  | 26 => ⟨S_, .i32⟩
  | 27 => ⟨S32x5x1000000, .i32⟩
  | 28 => ⟨S32x5x1000000, .i32⟩
  | 29 => ⟨S32x5x1000000, .i32⟩
  | 30 => ⟨S32x5x1000000, .i32⟩
  | 31 => ⟨S32x5x1000000, .i32⟩
  | 32 => ⟨S_, .i32⟩
  | 33 => ⟨S32x5x1000000, .i32⟩
  | 34 => ⟨S32x5x1000000, .i32⟩
  | 35 => ⟨S_, .i32⟩
  | 36 => ⟨S32x5x1000000, .i32⟩
  | 37 => ⟨S32x5x1000000, .i32⟩
  | 38 => ⟨S32x5x1000000, .i32⟩
  | 39 => ⟨S32x5x1000000, .i32⟩
  | 40 => ⟨S32x5x1000000, .i32⟩
  | 41 => ⟨S_, .i32⟩
  | 42 => ⟨S32x5x1000000, .i32⟩
  | 43 => ⟨S32x5x1000000, .i32⟩
  | 44 => ⟨S_, .i32⟩
  | 45 => ⟨S32x5x1000000, .i32⟩
  | 46 => ⟨S32x5x1000000, .i32⟩
  | 47 => ⟨S32x5x1000000, .i32⟩
  | 48 => ⟨S32x5x1000000, .i32⟩
  | 49 => ⟨S32x5x1000000, .i32⟩
  | 50 => ⟨S_, .i32⟩
  | 51 => ⟨S32x5x1000000, .i32⟩
  | 52 => ⟨S32x5x1000000, .i32⟩
  | 53 => ⟨S_, .i32⟩
  | 54 => ⟨S32x5x1000000, .i32⟩
  | 55 => ⟨S32x5x1000000, .i32⟩
  | 56 => ⟨S32x5x1000000, .i32⟩
  | 57 => ⟨S32x5x1000000, .i32⟩
  | 58 => ⟨S_, .i32⟩
  | 59 => ⟨S32x5x1000000, .i32⟩
  | 60 => ⟨S32x5x1000000, .i32⟩
  | 61 => ⟨S_, .i32⟩
  | 62 => ⟨S32x5x1000000, .i32⟩
  | 63 => ⟨S32x5x1000000, .i32⟩
  | 64 => ⟨S32x5x1000000, .i32⟩
  | 65 => ⟨S_, .i32⟩
  | 66 => ⟨S32x5x1000000, .i32⟩
  | 67 => ⟨S32x5x1000000, .i32⟩
  | 68 => ⟨S_, .i32⟩
  | 69 => ⟨S32x5x1000000, .i32⟩
  | 70 => ⟨S32x5x1000000, .i32⟩
  | 71 => ⟨S32x5x1000000, .i32⟩
  | 72 => ⟨S32x5x1000000, .i32⟩
  | 73 => ⟨S32x5x1000000, .i32⟩
  | 74 => ⟨S_, .i32⟩
  | 75 => ⟨S32x5x1000000, .i32⟩
  | 76 => ⟨S32x5x1000000, .i32⟩
  | 77 => ⟨S_, .i32⟩
  | 78 => ⟨S32x5x1000000, .i32⟩
  | 79 => ⟨S32x5x1000000, .i32⟩
  | 80 => ⟨S32x5x1000000, .i32⟩
  | 81 => ⟨S32x5x1000000, .i32⟩
  | 82 => ⟨S32x5x1000000, .i32⟩
  | 83 => ⟨S_, .i32⟩
  | 84 => ⟨S32x5x1000000, .i32⟩
  | 85 => ⟨S32x5x1000000, .i32⟩
  | 86 => ⟨S_, .i32⟩
  | 87 => ⟨S32x5x1000000, .i32⟩
  | 88 => ⟨S32x5x1000000, .i32⟩
  | 89 => ⟨S32x5x1000000, .i32⟩
  | 90 => ⟨S32x5x1000000, .i32⟩
  | 91 => ⟨S32x5x1000000, .i32⟩
  | 92 => ⟨S_, .i32⟩
  | 93 => ⟨S32x5x1000000, .i32⟩
  | 94 => ⟨S32x5x1000000, .i32⟩
  | 95 => ⟨S_, .i32⟩
  | 96 => ⟨S32x5x1000000, .i32⟩
  | 97 => ⟨S32x5x1000000, .i32⟩
  | 98 => ⟨S32x5x1000000, .i32⟩
  | 99 => ⟨S32x5x1000000, .i32⟩
  | 100 => ⟨S_, .i32⟩
  | 101 => ⟨S32x5x1000000, .i32⟩
  | 102 => ⟨S32x5x1000000, .i32⟩
  | 103 => ⟨S_, .i32⟩
  | 104 => ⟨S32x5x1000000, .i32⟩
  | 105 => ⟨S32x5x1000000, .i32⟩
  | 106 => ⟨S32x5x1000000, .i32⟩
  | 107 => ⟨S_, .i32⟩
  | 108 => ⟨S32x5x1000000, .i32⟩
  | 109 => ⟨S32x5x1000000, .i32⟩
  | 110 => ⟨S_, .i32⟩
  | 111 => ⟨S32x5x1000000, .i32⟩
  | 112 => ⟨S32x5x1000000, .i32⟩
  | 113 => ⟨S32x5x1000000, .f32⟩
  | 114 => ⟨S_, .f32⟩
  | 115 => ⟨S32x5x1000000, .f32⟩
  | 116 => ⟨S32x5x1000000, .f32⟩
  | 117 => ⟨S_, .f32⟩
  | 118 => ⟨S32x5x1000000, .f32⟩
  | 119 => ⟨S32x5x1000000, .f32⟩
  | 120 => ⟨S_, .f32⟩
  | 121 => ⟨S32x5x1000000, .f32⟩
  | 122 => ⟨S32x5x1000000, .f32⟩
  | 123 => ⟨S_, .f32⟩
  | 124 => ⟨S32x5x1000000, .f32⟩
  | 125 => ⟨S32x5x1000000, .f32⟩
  | 126 => ⟨S32x5x1000000, .f32⟩
  | 127 => ⟨S32x5x1000000, .f32⟩
  | _ => ⟨S32x1000000, .f32⟩

abbrev hbmTy0_2 (i : Nat) : BufTy := match i % 128 with
  | 0 => ⟨S32x5x1000000, .f32⟩
  | 1 => ⟨S32x5x1000000, .f32⟩
  | 2 => ⟨S32x1x1000000, .f32⟩
  | 3 => ⟨S32x5x1000000, .f32⟩
  | 4 => ⟨S32x5x1000000, .f32⟩
  | 5 => ⟨S32x5x1000000, .i32⟩
  | 6 => ⟨S_, .f32⟩
  | 7 => ⟨S_, .i32⟩
  | 8 => ⟨S32x5, .f32⟩
  | 9 => ⟨S32x5, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_6 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_12 : Ref sig .tc := ⟨.hbm, 60, rfl⟩
abbrev main_v45 : Ref sig .tc := ⟨.hbm, 61, rfl⟩
abbrev main_v46 : Ref sig .tc := ⟨.hbm, 62, rfl⟩
abbrev main_c_13 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_14 : Ref sig .tc := ⟨.hbm, 67, rfl⟩
abbrev main_v50 : Ref sig .tc := ⟨.hbm, 68, rfl⟩
abbrev main_v51 : Ref sig .tc := ⟨.hbm, 69, rfl⟩
abbrev main_c_15 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_16 : Ref sig .tc := ⟨.hbm, 76, rfl⟩
abbrev main_v57 : Ref sig .tc := ⟨.hbm, 77, rfl⟩
abbrev main_v58 : Ref sig .tc := ⟨.hbm, 78, rfl⟩
abbrev main_c_17 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_18 : Ref sig .tc := ⟨.hbm, 85, rfl⟩
abbrev main_v64 : Ref sig .tc := ⟨.hbm, 86, rfl⟩
abbrev main_v65 : Ref sig .tc := ⟨.hbm, 87, rfl⟩
abbrev main_c_19 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_20 : Ref sig .tc := ⟨.hbm, 94, rfl⟩
abbrev main_v71 : Ref sig .tc := ⟨.hbm, 95, rfl⟩
abbrev main_v72 : Ref sig .tc := ⟨.hbm, 96, rfl⟩
abbrev main_c_21 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_22 : Ref sig .tc := ⟨.hbm, 102, rfl⟩
abbrev main_v77 : Ref sig .tc := ⟨.hbm, 103, rfl⟩
abbrev main_v78 : Ref sig .tc := ⟨.hbm, 104, rfl⟩
abbrev main_c_23 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_24 : Ref sig .tc := ⟨.hbm, 109, rfl⟩
abbrev main_v82 : Ref sig .tc := ⟨.hbm, 110, rfl⟩
abbrev main_v83 : Ref sig .tc := ⟨.hbm, 111, rfl⟩
abbrev main_c_25 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_26 : Ref sig .tc := ⟨.hbm, 118, rfl⟩
abbrev main_v89 : Ref sig .tc := ⟨.hbm, 119, rfl⟩
abbrev main_v90 : Ref sig .tc := ⟨.hbm, 120, rfl⟩
abbrev main_c_27 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_28 : Ref sig .tc := ⟨.hbm, 127, rfl⟩
abbrev main_v96 : Ref sig .tc := ⟨.hbm, 128, rfl⟩
abbrev main_v97 : Ref sig .tc := ⟨.hbm, 129, rfl⟩
abbrev main_c_29 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_30 : Ref sig .tc := ⟨.hbm, 136, rfl⟩
abbrev main_v103 : Ref sig .tc := ⟨.hbm, 137, rfl⟩
abbrev main_v104 : Ref sig .tc := ⟨.hbm, 138, rfl⟩
abbrev main_c_31 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_32 : Ref sig .tc := ⟨.hbm, 144, rfl⟩
abbrev main_v109 : Ref sig .tc := ⟨.hbm, 145, rfl⟩
abbrev main_v110 : Ref sig .tc := ⟨.hbm, 146, rfl⟩
abbrev main_c_33 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_34 : Ref sig .tc := ⟨.hbm, 151, rfl⟩
abbrev main_v114 : Ref sig .tc := ⟨.hbm, 152, rfl⟩
abbrev main_v115 : Ref sig .tc := ⟨.hbm, 153, rfl⟩
abbrev main_c_35 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_36 : Ref sig .tc := ⟨.hbm, 160, rfl⟩
abbrev main_v121 : Ref sig .tc := ⟨.hbm, 161, rfl⟩
abbrev main_v122 : Ref sig .tc := ⟨.hbm, 162, rfl⟩
abbrev main_c_37 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_38 : Ref sig .tc := ⟨.hbm, 169, rfl⟩
abbrev main_v128 : Ref sig .tc := ⟨.hbm, 170, rfl⟩
abbrev main_v129 : Ref sig .tc := ⟨.hbm, 171, rfl⟩
abbrev main_c_39 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_40 : Ref sig .tc := ⟨.hbm, 178, rfl⟩
abbrev main_v135 : Ref sig .tc := ⟨.hbm, 179, rfl⟩
abbrev main_v136 : Ref sig .tc := ⟨.hbm, 180, rfl⟩
abbrev main_c_41 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_42 : Ref sig .tc := ⟨.hbm, 186, rfl⟩
abbrev main_v141 : Ref sig .tc := ⟨.hbm, 187, rfl⟩
abbrev main_v142 : Ref sig .tc := ⟨.hbm, 188, rfl⟩
abbrev main_c_43 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_44 : Ref sig .tc := ⟨.hbm, 193, rfl⟩
abbrev main_v146 : Ref sig .tc := ⟨.hbm, 194, rfl⟩
abbrev main_v147 : Ref sig .tc := ⟨.hbm, 195, rfl⟩
abbrev main_c_45 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_c_46 : Ref sig .tc := ⟨.hbm, 202, rfl⟩
abbrev main_v153 : Ref sig .tc := ⟨.hbm, 203, rfl⟩
abbrev main_v154 : Ref sig .tc := ⟨.hbm, 204, rfl⟩
abbrev main_c_47 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_c_48 : Ref sig .tc := ⟨.hbm, 211, rfl⟩
abbrev main_v160 : Ref sig .tc := ⟨.hbm, 212, rfl⟩
abbrev main_v161 : Ref sig .tc := ⟨.hbm, 213, rfl⟩
abbrev main_c_49 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_c_50 : Ref sig .tc := ⟨.hbm, 220, rfl⟩
abbrev main_v167 : Ref sig .tc := ⟨.hbm, 221, rfl⟩
abbrev main_v168 : Ref sig .tc := ⟨.hbm, 222, rfl⟩
abbrev main_c_51 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_c_52 : Ref sig .tc := ⟨.hbm, 228, rfl⟩
abbrev main_v173 : Ref sig .tc := ⟨.hbm, 229, rfl⟩
abbrev main_v174 : Ref sig .tc := ⟨.hbm, 230, rfl⟩
abbrev main_c_53 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_c_54 : Ref sig .tc := ⟨.hbm, 235, rfl⟩
abbrev main_v178 : Ref sig .tc := ⟨.hbm, 236, rfl⟩
abbrev main_v179 : Ref sig .tc := ⟨.hbm, 237, rfl⟩
abbrev main_c_55 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_56 : Ref sig .tc := ⟨.hbm, 242, rfl⟩
abbrev main_v183 : Ref sig .tc := ⟨.hbm, 243, rfl⟩
abbrev main_v184 : Ref sig .tc := ⟨.hbm, 244, rfl⟩
abbrev main_cst_57 : Ref sig .tc := ⟨.hbm, 245, rfl⟩
abbrev main_v185 : Ref sig .tc := ⟨.hbm, 246, rfl⟩
abbrev main_v186 : Ref sig .tc := ⟨.hbm, 247, rfl⟩
abbrev main_cst_58 : Ref sig .tc := ⟨.hbm, 248, rfl⟩
abbrev main_v187 : Ref sig .tc := ⟨.hbm, 249, rfl⟩
abbrev main_v188 : Ref sig .tc := ⟨.hbm, 250, rfl⟩
abbrev main_cst_59 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_call0_v0 : Ref sig .tc := ⟨.hbm, 261, rfl⟩
abbrev main_call0_cst : Ref sig .tc := ⟨.hbm, 262, rfl⟩
abbrev main_call0_c : Ref sig .tc := ⟨.hbm, 263, rfl⟩
abbrev main_call0_v1_0 : Ref sig .tc := ⟨.hbm, 264, rfl⟩
abbrev main_v198 : Ref sig .tc := ⟨.hbm, 265, rfl⟩

abbrev nD : Nat := 1
abbrev τ : Topo := Topo.v7x

variable {F : FTy → Type} [FloatOps F]
-- ==== Proof.Draw.lean ====
/- What the kernel's vector code computes of one chunk, whichever sample it is for: the noisy logits of the chunk's lanes.
   The printed body states the same arithmetic five times, cut at different places; here each of the five is one function
   of the sample's counters. -/
module

public import proofs.«01_k».proof.Proof.Gen.KernelIdeal.Skeleton

@[expose] public section

noncomputable section

namespace Cert.KernelIdeal.Hand

open Cert.KernelIdeal Cert.KernelIdeal.Gen Idealize.ShloMosaic

variable {F : FTy → Type} [FloatOps F]

local notation "Words" => IVec S8x6144 32

/-- Every lane's word rotated left by `r`, `l` being what is left of 32. -/
def rotV (r l : BitVec 32) (x : Words) : Words :=
  ori (shli x (broadcast S8x6144 r)) (shrui x (broadcast S8x6144 l))

/-- One round of the cipher on every lane. -/
def roundV (r l : BitVec 32) (z : Words × Words) : Words × Words :=
  (addi z.1 z.2, xori (rotV r l z.2) (addi z.1 z.2))

/-- A key injection on every lane. -/
def keyV (a b : BitVec 32) (z : Words × Words) : Words × Words :=
  (addi z.1 (broadcast S8x6144 a), addi z.2 (broadcast S8x6144 b))

/-- Four rounds with the first rotations; -/
def fourA (z : Words × Words) : Words × Words := roundV 6#32 26#32 (roundV 26#32 6#32 (roundV 15#32 17#32 (roundV 13#32 19#32 z)))
/-- four rounds with the second. -/
def fourB (z : Words × Words) : Words × Words := roundV 24#32 8#32 (roundV 16#32 16#32 (roundV 29#32 3#32 (roundV 17#32 15#32 z)))

/-- The cipher's output on every lane, its two words xored, the second input word being `n` (the key already added) and the
    first zero: the first round and the two additions of zero are simplified as the kernel does. -/
def bitsV (n : Words) : Words :=
  let z := roundV 6#32 26#32 (roundV 26#32 6#32 (roundV 15#32 17#32 (n, xori (rotV 13#32 19#32 n) n)))
  let z := fourB (keyV 42#32 466689009#32 z)
  let z := fourA (addi z.1 (broadcast S8x6144 466689008#32), addi z.2 (broadcast S8x6144 2#32))
  let z := fourB (z.1, addi z.2 (broadcast S8x6144 45#32))
  let z := fourA (keyV 42#32 466689012#32 z)
  let z := keyV 466689008#32 5#32 z
  xori z.1 z.2

/-- The noisy logits of a chunk: the logits less the logarithm of an exponential variable made of the random words. -/
def noisyV (lm : FVec F S8x6144 .f32) (b : Words) : FVec F S8x6144 .f32 :=
  subf lm (log (subf (broadcast S8x6144 (Scalar.ofBits .f32 0x00000000#32))
    (log (addf (subf (bitcastToFloat .f32 (ori (shrui b (broadcast S8x6144 9#32)) (broadcast S8x6144 1065353216#32)))
      (broadcast S8x6144 (Scalar.ofBits .f32 0x3F800000#32))) (broadcast S8x6144 (Scalar.ofBits .f32 0x00800000#32))))))

/-- The counters of sample `s` at a grid point: the lane's position in its row, past the sample's first position and the key. -/
def ctrV (i : grid0.Coords) (s : BitVec 32) : Words :=
  addi (k0_pay9 i) (broadcast S8x6144 (Scalar.addi (Scalar.muli (Scalar.addi (Scalar.muli (BitVec.ofNat 32 (i 0).val) 5#32) s) 1000000#32) 42#32))

theorem add42_3 : Scalar.addi 42#32 3#32 = 45#32 := rfl
theorem addK_1 : Scalar.addi 466689008#32 1#32 = 466689009#32 := rfl
theorem addK_4 : Scalar.addi 466689008#32 4#32 = 466689012#32 := rfl

/-- One update of a sample's running maxima: a lane's noisy logit where it exceeds the maximum held, which is kept elsewhere. -/
def putMax (n : FVec F S8x6144 .f32) (v : Vec F S1x8x6144 .f32) : Vec F S1x8x6144 .f32 :=
  shapeCast S1x8x6144 (select (cmpf .ogt n (shapeCast S8x6144 v shapeCasts_S1x8x6144_S8x6144)) n (shapeCast S8x6144 v shapeCasts_S1x8x6144_S8x6144))
    shapeCasts_S8x6144_S1x8x6144

/-- The same update of the positions: a lane's own position where its noisy logit exceeds the maximum held. -/
def putIdx (n : FVec F S8x6144 .f32) (j : Words) (v : Vec F S1x8x6144 .f32) (w : Vec F S1x8x6144 .i32) : Vec F S1x8x6144 .i32 :=
  shapeCast S1x8x6144 (select (cmpf .ogt n (shapeCast S8x6144 v shapeCasts_S1x8x6144_S8x6144)) j (shapeCast S8x6144 w shapeCasts_S1x8x6144_S8x6144))
    shapeCasts_S8x6144_S1x8x6144

/-- The noisy logits of sample `s` at a grid point whose block of weights is `x`. -/
def noisyS (i : grid0.Coords) (x : Vec F S1x8x6144 .f32) (s : BitVec 32) : FVec F S8x6144 .f32 :=
  noisyV (k0_pay10 i x) (bitsV (ctrV i s))

/-! The five samples' updates, each as the printed body cuts it: the words left after each quarter of the cipher, then the two updates. -/

def a0 (i : grid0.Coords) : Words × Words := (k0_pay18 i, k0_pay19 i)
def b0 (i : grid0.Coords) : Words × Words × Words := (k0_pay30 (a0 i).1 (a0 i).2, k0_pay31 (a0 i).1 (a0 i).2, k0_pay32 (a0 i).1 (a0 i).2)
def c0 (i : grid0.Coords) : Words × Words := (k0_pay43 (b0 i).1 (b0 i).2.1 (b0 i).2.2, k0_pay44 (b0 i).1 (b0 i).2.1 (b0 i).2.2)
def d0 (i : grid0.Coords) : Words × Words := (k0_pay54 (c0 i).1 (c0 i).2 29#32, k0_pay55 (c0 i).1 (c0 i).2 29#32)

set_option maxRecDepth 100000 in
set_option maxHeartbeats 4000000 in
/-- Sample 0's update of the maxima, -/
theorem max0 (i : grid0.Coords) (x v : Vec F S1x8x6144 .f32) :
    k0_pay58 (k0_pay10 i x) (d0 i).1 (d0 i).2 v v = putMax (noisyS i x 0#32) v := by
  simp only [putMax,
    k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52, k0_pay53, k0_pay54,
    k0_pay55, k0_pay56, k0_pay57, k0_pay58, k0_pay59, k0_pay60, a0, b0, c0, d0, noisyS, noisyV, bitsV, ctrV, fourA, fourB, keyV, roundV,
    rotV, add42_3, addK_1, addK_4]

set_option maxRecDepth 100000 in
set_option maxHeartbeats 4000000 in
/-- and of the positions. -/
theorem idx0 (i : grid0.Coords) (x v : Vec F S1x8x6144 .f32) (w : Vec F S1x8x6144 .i32) :
    k0_pay60 (k0_pay59 (k0_pay9 i) (k0_pay10 i x) (d0 i).1 (d0 i).2 v w)
      = putIdx (noisyS i x 0#32) (k0_pay9 i) v w := by
  simp only [putIdx,
    k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52, k0_pay53, k0_pay54,
    k0_pay55, k0_pay56, k0_pay57, k0_pay58, k0_pay59, k0_pay60, a0, b0, c0, d0, noisyS, noisyV, bitsV, ctrV, fourA, fourB, keyV, roundV,
    rotV, add42_3, addK_1, addK_4]

def a1 (i : grid0.Coords) : Words × Words := (k0_pay68 (BitVec.ofNat 32 (i 0).val) (k0_pay9 i), k0_pay69 (BitVec.ofNat 32 (i 0).val) (k0_pay9 i))
def b1 (i : grid0.Coords) : Words × Words := (k0_pay80 (a1 i).1 (a1 i).2, k0_pay81 (a1 i).1 (a1 i).2)
def c1 (i : grid0.Coords) : Words × Words := (k0_pay92 (b1 i).1 (b1 i).2, k0_pay93 (b1 i).1 (b1 i).2)

set_option maxRecDepth 100000 in
set_option maxHeartbeats 4000000 in
/-- Sample 1's update of the maxima, -/
theorem max1 (i : grid0.Coords) (x v : Vec F S1x8x6144 .f32) :
    k0_pay97 (k0_pay10 i x) (k0_pay94 (F := F) (c1 i).1 (c1 i).2 42#32) v v = putMax (noisyS i x 1#32) v := by
  simp only [putMax,
    k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, a1, b1, c1,
    noisyS, noisyV, bitsV, ctrV, fourA, fourB, keyV, roundV, rotV, add42_3, addK_1, addK_4]

set_option maxRecDepth 100000 in
set_option maxHeartbeats 4000000 in
/-- and of the positions. -/
theorem idx1 (i : grid0.Coords) (x v : Vec F S1x8x6144 .f32) (w : Vec F S1x8x6144 .i32) :
    k0_pay98 (k0_pay9 i) (k0_pay10 i x) (k0_pay94 (F := F) (c1 i).1 (c1 i).2 42#32) v w
      = putIdx (noisyS i x 1#32) (k0_pay9 i) v w := by
  simp only [putIdx,
    k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, a1, b1, c1,
    noisyS, noisyV, bitsV, ctrV, fourA, fourB, keyV, roundV, rotV, add42_3, addK_1, addK_4]

def a2 (i : grid0.Coords) : Words × Words := (k0_pay100 (BitVec.ofNat 32 (i 0).val) (k0_pay9 i), k0_pay101 (BitVec.ofNat 32 (i 0).val) (k0_pay9 i))
def b2 (i : grid0.Coords) : Words × Words := (k0_pay111 (a2 i).1 (a2 i).2, k0_pay112 (a2 i).1 (a2 i).2)
def c2 (i : grid0.Coords) : Words × Words := (k0_pay123 (b2 i).1 (b2 i).2, k0_pay124 (b2 i).1 (b2 i).2)
def d2 (i : grid0.Coords) : Words × Words := (k0_pay136 (c2 i).1 (c2 i).2 k0_pay125, k0_pay137 (c2 i).1 (c2 i).2 k0_pay125)

set_option maxRecDepth 100000 in
set_option maxHeartbeats 4000000 in
/-- Sample 2's update of the maxima, -/
theorem max2 (i : grid0.Coords) (x v : Vec F S1x8x6144 .f32) :
    k0_pay141 (k0_pay140 (k0_pay10 i x) (d2 i).1 (d2 i).2 v v) = putMax (noisyS i x 2#32) v := by
  simp only [putMax,
    k0_pay99, k0_pay100, k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, a2, b2, c2, d2, noisyS, noisyV, bitsV, ctrV,
    fourA, fourB, keyV, roundV, rotV, add42_3, addK_1, addK_4]

set_option maxRecDepth 100000 in
set_option maxHeartbeats 4000000 in
/-- and of the positions. -/
theorem idx2 (i : grid0.Coords) (x v : Vec F S1x8x6144 .f32) (w : Vec F S1x8x6144 .i32) :
    k0_pay142 (k0_pay9 i) (k0_pay139 (k0_pay10 i x) (d2 i).1 (d2 i).2 v) w
      = putIdx (noisyS i x 2#32) (k0_pay9 i) v w := by
  simp only [putIdx,
    k0_pay99, k0_pay100, k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, a2, b2, c2, d2, noisyS, noisyV, bitsV, ctrV,
    fourA, fourB, keyV, roundV, rotV, add42_3, addK_1, addK_4]

def a3 (i : grid0.Coords) : Words × Words := (k0_pay149 (BitVec.ofNat 32 (i 0).val) (k0_pay9 i), k0_pay150 (BitVec.ofNat 32 (i 0).val) (k0_pay9 i))
def b3 (i : grid0.Coords) : Words × Words := (k0_pay161 (a3 i).1 (a3 i).2, k0_pay162 (a3 i).1 (a3 i).2)
def c3 (i : grid0.Coords) : Words × Words := (k0_pay173 (b3 i).1 (b3 i).2, k0_pay174 (b3 i).1 (b3 i).2)
def d3 (i : grid0.Coords) : Words := k0_pay175 (c3 i).1 (c3 i).2 24#32

set_option maxRecDepth 100000 in
set_option maxHeartbeats 4000000 in
/-- Sample 3's update of the maxima, -/
theorem max3 (i : grid0.Coords) (x v : Vec F S1x8x6144 .f32) :
    k0_pay179 (k0_pay10 i x) (d3 i) k0_pay176 v v = putMax (noisyS i x 3#32) v := by
  simp only [putMax,
    k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176, k0_pay177, k0_pay178,
    k0_pay179, k0_pay180, a3, b3, c3, d3, noisyS, noisyV, bitsV, ctrV, fourA, fourB, keyV, roundV, rotV, add42_3, addK_1, addK_4]

set_option maxRecDepth 100000 in
set_option maxHeartbeats 4000000 in
/-- and of the positions. -/
theorem idx3 (i : grid0.Coords) (x v : Vec F S1x8x6144 .f32) (w : Vec F S1x8x6144 .i32) :
    k0_pay180 (k0_pay9 i) (k0_pay10 i x) (d3 i) k0_pay176 v w
      = putIdx (noisyS i x 3#32) (k0_pay9 i) v w := by
  simp only [putIdx,
    k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166,
    k0_pay167, k0_pay168, k0_pay169, k0_pay170, k0_pay171, k0_pay172, k0_pay173, k0_pay174, k0_pay175, k0_pay176, k0_pay177, k0_pay178,
    k0_pay179, k0_pay180, a3, b3, c3, d3, noisyS, noisyV, bitsV, ctrV, fourA, fourB, keyV, roundV, rotV, add42_3, addK_1, addK_4]

def a4 (i : grid0.Coords) : Words := k0_pay181 (BitVec.ofNat 32 (i 0).val) (k0_pay9 i)
def b4 (i : grid0.Coords) : Words × Words := (k0_pay191 (a4 i) 13#32, k0_pay192 (a4 i) 13#32)
def c4 (i : grid0.Coords) : Words × Words := (k0_pay203 (b4 i).1 (b4 i).2, k0_pay204 (b4 i).1 (b4 i).2)
def d4 (i : grid0.Coords) : Words × Words := (k0_pay215 (c4 i).1 (c4 i).2, k0_pay216 (c4 i).1 (c4 i).2)

set_option maxRecDepth 100000 in
set_option maxHeartbeats 4000000 in
/-- Sample 4's update of the maxima, -/
theorem max4 (i : grid0.Coords) (x v : Vec F S1x8x6144 .f32) :
    k0_pay1 (k0_pay217 (k0_pay10 i x) (d4 i).1 (d4 i).2 15#32) (k0_pay218 (k0_pay10 i x) (d4 i).1 (d4 i).2 15#32 v) v = putMax (noisyS i x 4#32) v := by
  simp only [putMax,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay1, k0_pay2, a4, b4, c4, d4, noisyS, noisyV, bitsV, ctrV, fourA, fourB, keyV, roundV, rotV, add42_3, addK_1,
    addK_4]

set_option maxRecDepth 100000 in
set_option maxHeartbeats 4000000 in
/-- and of the positions. -/
theorem idx4 (i : grid0.Coords) (x v : Vec F S1x8x6144 .f32) (w : Vec F S1x8x6144 .i32) :
    k0_pay2 (k0_pay9 i) (k0_pay218 (k0_pay10 i x) (d4 i).1 (d4 i).2 15#32 v) w
      = putIdx (noisyS i x 4#32) (k0_pay9 i) v w := by
  simp only [putIdx,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay1, k0_pay2, a4, b4, c4, d4, noisyS, noisyV, bitsV, ctrV, fourA, fourB, keyV, roundV, rotV, add42_3, addK_1,
    addK_4]

end Cert.KernelIdeal.Hand
end
-- ==== Proof.Body.lean ====
/- What one grid point of the kernel does to its two scratch arrays and, at a row's last chunk, to its output block. -/
module

public import proofs.«01_k».proof.Proof.Draw
public import proofs.«01_k».proof.Proof.Gen.KernelIdeal.Frame
public import Idealize.ShloMosaic.Lib.Pipeline.Frame
public import Idealize.ShloMosaic.Lib.Pipeline.Value
public import Idealize.ShloMosaic.Lib.Pipeline.ValueKit.Geometry
public import Idealize.ShloMosaic.Lib.WritesUnit
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lane of a scratch element: its sublane and its column. -/
def lane (y : S5x8x6144.Idx) : S8x6144.Idx := fun a => y a.succ

/-- The scratch maxima after a grid point, from those before it. -/
def stepMax (i : grid0.Coords) (x : Vec F S1x8x6144 .f32) (V : S5x8x6144.Idx → F .f32) : S5x8x6144.Idx → F .f32 := fun y =>
  Scalar.select (FloatOps.cmpf .ogt (noisyS i x (BitVec.ofNat 32 (y 0).val) (lane y)) (V y)) (noisyS i x (BitVec.ofNat 32 (y 0).val) (lane y)) (V y)

/-- The scratch positions after a grid point, from the maxima and the positions before it. -/
def stepIdx (i : grid0.Coords) (x : Vec F S1x8x6144 .f32) (V : S5x8x6144.Idx → F .f32) (W : S5x8x6144.Idx → BitVec 32) :
    S5x8x6144.Idx → BitVec 32 := fun y =>
  Scalar.select (FloatOps.cmpf .ogt (noisyS i x (BitVec.ofNat 32 (y 0).val) (lane y)) (V y)) (k0_pay9 i (lane y)) (W y)

/-- The value the maxima start a row from. -/
def fillV : S5x8x6144.Idx → F .f32 := fun _ => Scalar.ofBits .f32 0xFF6937D4#32

/-- The position reported for a sample from its slice of the scratch arrays: the least held by a lane at the maximum. -/
def pick (v : Vec F S1x8x6144 .f32) (w : Vec F S1x8x6144 .i32) : BitVec 32 := extractAt ![0, 0, 0] (k0_pay3 v w) inpos_S1x1x1_p0_0_0

/-- Sample `s`'s slice of a scratch array. -/
def sliceAt {α : Type} (V : S5x8x6144.Idx → α) (s : Fin 5) : S1x8x6144.Idx → α := fun z => V (Fin.cons s fun a => z a.succ)

/-- The output block of a row, from the scratch arrays after its last chunk. -/
def outOf (V : S5x8x6144.Idx → F .f32) (W : S5x8x6144.Idx → BitVec 32) : S1x1x5.Idx → BitVec 32 := fun y => pick (sliceAt V (y 2)) (sliceAt W (y 2))

/-- The lane of an element of one slice. -/
def tail1 (z : S1x8x6144.Idx) : S8x6144.Idx := fun a => z a.succ

theorem cons_tail1 (z : S1x8x6144.Idx) : (Fin.cons ⟨0, Nat.one_pos⟩ (tail1 z) : S1x8x6144.Idx) = z := by
  funext a
  refine Fin.cases ?_ (fun a => rfl) a
  exact Subsingleton.elim (α := Fin 1) _ _

theorem putMax_apply (n : FVec F S8x6144 .f32) (v : Vec F S1x8x6144 .f32) (z : S1x8x6144.Idx) :
    putMax n v z = Scalar.select (FloatOps.cmpf .ogt (n (tail1 z)) (v z)) (n (tail1 z)) (v z) := by
  refine (shapeCast_addUnit_apply ![8, 6144] _ _ z).trans ?_
  have e : shapeCast S8x6144 v shapeCasts_S1x8x6144_S8x6144 (tail1 z) = v z :=
    (shapeCast_dropUnit_apply ![8, 6144] v _ (tail1 z)).trans (congrArg v (cons_tail1 z))
  show Scalar.select (FloatOps.cmpf .ogt (n (tail1 z)) (shapeCast S8x6144 v shapeCasts_S1x8x6144_S8x6144 (tail1 z))) (n (tail1 z))
    (shapeCast S8x6144 v shapeCasts_S1x8x6144_S8x6144 (tail1 z)) = _
  rw [e]

theorem putIdx_apply (n : FVec F S8x6144 .f32) (j : IVec S8x6144 32) (v : Vec F S1x8x6144 .f32) (w : Vec F S1x8x6144 .i32) (z : S1x8x6144.Idx) :
    putIdx n j v w z = Scalar.select (FloatOps.cmpf .ogt (n (tail1 z)) (v z)) (j (tail1 z)) (w z) := by
  refine (shapeCast_addUnit_apply ![8, 6144] _ _ z).trans ?_
  have e : shapeCast S8x6144 v shapeCasts_S1x8x6144_S8x6144 (tail1 z) = v z :=
    (shapeCast_dropUnit_apply ![8, 6144] v _ (tail1 z)).trans (congrArg v (cons_tail1 z))
  have e' : shapeCast S8x6144 w shapeCasts_S1x8x6144_S8x6144 (tail1 z) = w z :=
    (shapeCast_dropUnit_apply ![8, 6144] w _ (tail1 z)).trans (congrArg w (cons_tail1 z))
  show Scalar.select (FloatOps.cmpf .ogt (n (tail1 z)) (shapeCast S8x6144 v shapeCasts_S1x8x6144_S8x6144 (tail1 z))) (j (tail1 z))
    (shapeCast S8x6144 w shapeCasts_S1x8x6144_S8x6144 (tail1 z)) = _
  rw [e, e']

/-- Sample `k`'s slice of a scratch array as a rectangle of it: an element's sample, -/
theorem slot_row (k : ℕ) (inb) (z : S1x8x6144.Idx) :
    ((Rect.unit (s := S5x8x6144) ![k, 0, 0] S1x8x6144.size inb).emb z 0).val = k := by
  rw [ValueKit.rect_emb_unit_val]
  have h : (z 0).val < 1 := (z 0).isLt
  show k + (z 0).val = k
  omega

/-- and its lane. -/
theorem slot_lane (k : ℕ) (inb) (z : S1x8x6144.Idx) :
    lane ((Rect.unit (s := S5x8x6144) ![k, 0, 0] S1x8x6144.size inb).emb z) = tail1 z := by
  funext a
  apply Fin.ext
  show ((Rect.unit (s := S5x8x6144) ![k, 0, 0] S1x8x6144.size inb).emb z (Fin.succ a)).val = _
  rw [ValueKit.rect_emb_unit_val]
  have h0 : ∀ a : Fin 2, (![k, 0, 0] : Fin 3 → ℕ) a.succ = 0 := by rw [Fin.forall_fin_two]; exact ⟨rfl, rfl⟩
  exact (congrArg (· + _) (h0 a)).trans (Nat.zero_add _)

/-- The slice's element in the array, read as the array's slice. -/
theorem slot_slice {α : Type} (V : S5x8x6144.Idx → α) (k : Fin 5) (inb) (z : S1x8x6144.Idx) :
    V ((Rect.unit (s := S5x8x6144) ![k.val, 0, 0] S1x8x6144.size inb).emb z) = sliceAt V k z := by
  refine congrArg V ?_
  funext a
  refine Fin.cases ?_ (fun a => ?_) a
  · exact Fin.ext (slot_row k.val inb z)
  · exact congrFun (slot_lane k.val inb z) a

theorem slotMax (i : grid0.Coords) (x : Vec F S1x8x6144 .f32) (V : S5x8x6144.Idx → F .f32) (k : ℕ) (inb) (v : Vec F S1x8x6144 .f32)
    (hv : ∀ z : S1x8x6144.Idx, v z = V ((Rect.unit (s := S5x8x6144) ![k, 0, 0] S1x8x6144.size inb).emb z)) (z : S1x8x6144.Idx) :
    putMax (noisyS i x (BitVec.ofNat 32 k)) v z = stepMax i x V ((Rect.unit (s := S5x8x6144) ![k, 0, 0] S1x8x6144.size inb).emb z) := by
  rw [putMax_apply, hv, stepMax, slot_row, slot_lane]

theorem slotIdx (i : grid0.Coords) (x : Vec F S1x8x6144 .f32) (V : S5x8x6144.Idx → F .f32) (W : S5x8x6144.Idx → BitVec 32) (k : ℕ) (inb)
    (v : Vec F S1x8x6144 .f32) (w : Vec F S1x8x6144 .i32)
    (hv : ∀ z : S1x8x6144.Idx, v z = V ((Rect.unit (s := S5x8x6144) ![k, 0, 0] S1x8x6144.size inb).emb z))
    (hw : ∀ z : S1x8x6144.Idx, w z = W ((Rect.unit (s := S5x8x6144) ![k, 0, 0] S1x8x6144.size inb).emb z)) (z : S1x8x6144.Idx) :
    putIdx (noisyS i x (BitVec.ofNat 32 k)) (k0_pay9 i) v w z
      = stepIdx i x V W ((Rect.unit (s := S5x8x6144) ![k, 0, 0] S1x8x6144.size inb).emb z) := by
  rw [putIdx_apply, hv, hw, stepIdx, slot_row, slot_lane]

/-- An element of a scratch array lies in its sample's slice. -/
theorem slot_mem (k : ℕ) (inb) (y : S5x8x6144.Idx) (h : (y 0).val = k) : y ∈ (Rect.unit (s := S5x8x6144) ![k, 0, 0] S1x8x6144.size inb).set := by
  refine Rect.mem_set_unit.2 fun a => ?_
  have h1 : (y 1).val < 8 := (y 1).isLt
  have h2 : (y 2).val < 6144 := (y 2).isLt
  revert a
  show ∀ a : Fin 3, _
  rw [Fin.forall_fin_succ, Fin.forall_fin_two]
  refine ⟨?_, ?_, ?_⟩
  · show k ≤ (y 0).val ∧ (y 0).val < k + 1; omega
  · show 0 ≤ (y 1).val ∧ (y 1).val < 0 + 8; omega
  · show 0 ≤ (y 2).val ∧ (y 2).val < 0 + 6144; omega

end Cert.KernelIdeal.Hand
end
-- ==== Proof.BodyRun.lean ====
/- What one grid point's body does, in the three cases of its chunk: the row's first, one in between, the row's last. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- Reading a whole block by one load reads the block. -/
theorem full_read {sp : Space} (m : Memref sig .tc sp S1x8x6144 .f32) (f : m.view.ty.Contents (Elt F)) (inb) :
    m.view.readAt (Elt F) (Rect.unit (s := S1x8x6144) ![0, 0, 0] S1x8x6144.size inb).toLoadRect f = m.view.read (Elt F) f := by
  funext z
  refine congrArg (m.view.read (Elt F) f) ?_
  funext a
  apply Fin.ext
  refine (ValueKit.rect_emb_unit_val (s := S1x8x6144) ![0, 0, 0] S1x8x6144.size inb z a).trans ?_
  have h0 : ∀ a : Fin 3, (![0, 0, 0] : Fin 3 → ℕ) a = 0 := by rw [Fin.forall_fin_succ, Fin.forall_fin_two]; exact ⟨rfl, rfl, rfl⟩
  exact (congrArg (· + _) (h0 a)).trans (Nat.zero_add _)

/-- Slice `k` of a scratch array. -/
abbrev slot (k : ℕ) (inb : ∀ a : Fin 3, (![k, 0, 0] : Fin 3 → ℕ) a + S1x8x6144.size a ≤ S5x8x6144.size a) : Rect S5x8x6144 :=
  Rect.unit (s := S5x8x6144) ![k, 0, 0] S1x8x6144.size inb

/-- A scratch array whose five slices were written last, each with what `G` gives there, reads as `G`. -/
theorem five {sp : Space} {e : EltTy} (v : View sig .tc sp S5x8x6144 e) (f : v.ty.Contents (Elt F)) (G : S5x8x6144.Idx → Elt F e)
    (g0 g1 g2 g3 g4 : S1x8x6144.Idx → Elt F e) (L : List (View.Piece (Elt F) S5x8x6144 e))
    (h0 : ∀ z, g0 z = G ((slot 0 inb_S5x8x6144_S1x8x6144_0_0_0).emb z)) (h1 : ∀ z, g1 z = G ((slot 1 inb_S5x8x6144_S1x8x6144_1_0_0).emb z))
    (h2 : ∀ z, g2 z = G ((slot 2 inb_S5x8x6144_S1x8x6144_2_0_0).emb z)) (h3 : ∀ z, g3 z = G ((slot 3 inb_S5x8x6144_S1x8x6144_3_0_0).emb z))
    (h4 : ∀ z, g4 z = G ((slot 4 inb_S5x8x6144_S1x8x6144_4_0_0).emb z)) :
    v.read (Elt F) (v.writes (Elt F) f (⟨slot 4 inb_S5x8x6144_S1x8x6144_4_0_0, g4⟩ :: ⟨slot 3 inb_S5x8x6144_S1x8x6144_3_0_0, g3⟩
      :: ⟨slot 2 inb_S5x8x6144_S1x8x6144_2_0_0, g2⟩ :: ⟨slot 1 inb_S5x8x6144_S1x8x6144_1_0_0, g1⟩
      :: ⟨slot 0 inb_S5x8x6144_S1x8x6144_0_0_0, g0⟩ :: L)) = G := by
  funext y
  have hy : (y 0).val < 5 := (y 0).isLt
  refine Eq.trans (congrFun (congrArg (v.read (Elt F)) (View.writes_append (Val := Elt F) v f [⟨slot 4 inb_S5x8x6144_S1x8x6144_4_0_0, g4⟩,
    ⟨slot 3 inb_S5x8x6144_S1x8x6144_3_0_0, g3⟩, ⟨slot 2 inb_S5x8x6144_S1x8x6144_2_0_0, g2⟩, ⟨slot 1 inb_S5x8x6144_S1x8x6144_1_0_0, g1⟩,
    ⟨slot 0 inb_S5x8x6144_S1x8x6144_0_0_0, g0⟩] L)) y) ?_
  refine View.read_writes_apply_of_pieces v _ G _ ?_ y ?_
  · simp only [List.forall_mem_cons]
    exact ⟨h4, h3, h2, h1, h0, fun _ h => absurd h List.not_mem_nil⟩
  · simp only [List.exists_mem_cons_iff]
    rcases (by omega : (y 0).val = 0 ∨ (y 0).val = 1 ∨ (y 0).val = 2 ∨ (y 0).val = 3 ∨ (y 0).val = 4) with h | h | h | h | h
    · exact .inr (.inr (.inr (.inr (.inl (slot_mem 0 _ y h)))))
    · exact .inr (.inr (.inr (.inl (slot_mem 1 _ y h))))
    · exact .inr (.inr (.inl (slot_mem 2 _ y h)))
    · exact .inr (.inl (slot_mem 3 _ y h))
    · exact .inl (slot_mem 4 _ y h)

/-- An element of slice `k` reads past a write of another slice; -/
theorem past {sp : Space} {e : EltTy} (v : View sig .tc sp S5x8x6144 e) (f : v.ty.Contents (Elt F)) (k j : ℕ) (inb inb')
    (g : S1x8x6144.Idx → Elt F e) (L : List (View.Piece (Elt F) S5x8x6144 e)) (h : k ≠ j) (z : S1x8x6144.Idx) :
    v.read (Elt F) (v.writes (Elt F) f (⟨slot j inb', g⟩ :: L)) ((slot k inb).emb z) = v.read (Elt F) (v.writes (Elt F) f L) ((slot k inb).emb z) :=
  View.read_writes_cons_unit_of_not_mem v f inb' g L _ rfl 0 (by
    rw [slot_row]
    show k < j ∨ j + 1 ≤ k
    omega)

/-- it reads a write of its own slice. -/
theorem hit {sp : Space} {e : EltTy} (v : View sig .tc sp S5x8x6144 e) (f : v.ty.Contents (Elt F)) (k : ℕ) (inb)
    (g : S1x8x6144.Idx → Elt F e) (L : List (View.Piece (Elt F) S5x8x6144 e)) (z : S1x8x6144.Idx) :
    v.read (Elt F) (v.writes (Elt F) f (⟨slot k inb, g⟩ :: L)) ((slot k inb).emb z) = g z :=
  View.read_writes_cons_emb v f (slot k inb) g L z

set_option maxHeartbeats 4000000 in
/-- A row's first chunk: the maxima start from the fill, the positions from what they held. -/
theorem runFirst (c : Dev nD) (i : grid0.Coords) (arg2 : Memref sig .tc .vmem S1x8x6144 .f32) (harg2 : arg2.IsWhole)
    (arg3 : Memref sig .tc .smem S1x1x5 .i32) (harg3 : arg3.IsWhole)
    (sc4 : Memref sig .tc .vmem S5x8x6144 .f32) (harg4 : sc4.IsWhole) (sc5 : Memref sig .tc .vmem S5x8x6144 .i32) (harg5 : sc5.IsWhole)
    (h1 : Scalar.cmpi .ne (Scalar.extui (Scalar.cmpi .eq (BitVec.ofNat 32 (i 1).val) 0#32) : BitVec 32) 0#32 = 1#1)
    (h2 : ¬ k0_cond2 i = 1#1)
    (f2 : Buf (Elt F) (arg2.view.loc (c : Thread nD τ))) (f3 : Buf (Elt F) (arg3.view.loc (c : Thread nD τ)))
    (f4 : Buf (Elt F) (sc4.view.loc (c : Thread nD τ))) (f5 : Buf (Elt F) (sc5.view.loc (c : Thread nD τ)))
    (K : PUnit → sProp 𝕄) :
    iprop((arg2.view.loc (c : Thread nD τ) ↦[arg2.view.set]{fullShare} f2) ∗ (arg3.view.loc (c : Thread nD τ) ↦[arg3.view.set]{fullShare} f3)
        ∗ (sc4.view.loc (c : Thread nD τ) ↦[sc4.view.set]{fullShare} f4) ∗ (sc5.view.loc (c : Thread nD τ) ↦[sc5.view.set]{fullShare} f5)
        ∗ (iprop((arg2.view.loc (c : Thread nD τ) ↦[arg2.view.set]{fullShare} f2)
          ∗ (arg3.view.loc (c : Thread nD τ) ↦[arg3.view.set]{fullShare} f3)
          ∗ (∃ g, ⌜sc4.view.read (Elt F) g = stepMax i (arg2.view.read (Elt F) f2) fillV⌝ ∗ sc4.view.loc (c : Thread nD τ) ↦[sc4.view.set]{fullShare} g)
          ∗ (∃ g, ⌜sc5.view.read (Elt F) g = stepIdx i (arg2.view.read (Elt F) f2) fillV (sc5.view.read (Elt F) f5)⌝
              ∗ sc5.view.loc (c : Thread nD τ) ↦[sc5.view.set]{fullShare} g)) -∗ K ⟨⟩))
      ⊢ wp frame (wpE (defs₀ (F := F)) Variants.none c none) Set.univ
          (cc0__body i arg2 harg2 arg3 harg3 sc4 harg4 sc5 harg5) K := by
  simp only [cc0__body_eq_skeleton]; unfold cc0__body_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton]
  iintro ⟨H2, H3, H4, H5, Hk⟩
  sl_exec_parts
  sl_step
  iapply Hk
  isplitl [H2]; · iexact H2
  isplitl [H3]; · iexact H3
  isplitl [H4]
  · iexists _
    isplitr
    swap; · iexact H4
    ipureintro
    rw [← full_read arg2 f2 inb_S1x8x6144_S1x8x6144_0_0_0]
    exact five sc4.view f4 _ _ _ _ _ _ _
      (fun z => (congrFun (max0 i _ _) z).trans (slotMax i _ fillV 0 _ _ (fun z => ((past _ _ 0 4 _ _ _ _ (by decide) z).trans ((past _ _ 0 3 _ _ _ _ (by decide) z).trans ((past _ _ 0 2 _ _ _ _ (by decide) z).trans ((past _ _ 0 1 _ _ _ _ (by decide) z).trans (hit _ _ 0 _ _ _ z)))))) z))
      (fun z => (congrFun (max1 i _ _) z).trans (slotMax i _ fillV 1 _ _ (fun z => ((past _ _ 1 0 _ _ _ _ (by decide) z).trans ((past _ _ 1 4 _ _ _ _ (by decide) z).trans ((past _ _ 1 3 _ _ _ _ (by decide) z).trans ((past _ _ 1 2 _ _ _ _ (by decide) z).trans (hit _ _ 1 _ _ _ z)))))) z))
      (fun z => (congrFun (max2 i _ _) z).trans (slotMax i _ fillV 2 _ _ (fun z => ((past _ _ 2 1 _ _ _ _ (by decide) z).trans ((past _ _ 2 0 _ _ _ _ (by decide) z).trans ((past _ _ 2 4 _ _ _ _ (by decide) z).trans ((past _ _ 2 3 _ _ _ _ (by decide) z).trans (hit _ _ 2 _ _ _ z)))))) z))
      (fun z => (congrFun (max3 i _ _) z).trans (slotMax i _ fillV 3 _ _ (fun z => ((past _ _ 3 2 _ _ _ _ (by decide) z).trans ((past _ _ 3 1 _ _ _ _ (by decide) z).trans ((past _ _ 3 0 _ _ _ _ (by decide) z).trans ((past _ _ 3 4 _ _ _ _ (by decide) z).trans (hit _ _ 3 _ _ _ z)))))) z))
      (fun z => (congrFun (max4 i _ _) z).trans (slotMax i _ fillV 4 _ _ (fun z => ((past _ _ 4 3 _ _ _ _ (by decide) z).trans ((past _ _ 4 2 _ _ _ _ (by decide) z).trans ((past _ _ 4 1 _ _ _ _ (by decide) z).trans ((past _ _ 4 0 _ _ _ _ (by decide) z).trans (hit _ _ 4 _ _ _ z)))))) z))
  iexists _
  isplitr
  swap; · iexact H5
  ipureintro
  rw [← full_read arg2 f2 inb_S1x8x6144_S1x8x6144_0_0_0]
  exact five sc5.view f5 _ _ _ _ _ _ []
    (fun z => (congrFun (idx0 i _ _ _) z).trans (slotIdx i _ fillV _ 0 _ _ _ (fun z => ((past _ _ 0 4 _ _ _ _ (by decide) z).trans ((past _ _ 0 3 _ _ _ _ (by decide) z).trans ((past _ _ 0 2 _ _ _ _ (by decide) z).trans ((past _ _ 0 1 _ _ _ _ (by decide) z).trans (hit _ _ 0 _ _ _ z)))))) (fun _ => rfl) z))
    (fun z => (congrFun (idx1 i _ _ _) z).trans (slotIdx i _ fillV _ 1 _ _ _ (fun z => ((past _ _ 1 0 _ _ _ _ (by decide) z).trans ((past _ _ 1 4 _ _ _ _ (by decide) z).trans ((past _ _ 1 3 _ _ _ _ (by decide) z).trans ((past _ _ 1 2 _ _ _ _ (by decide) z).trans (hit _ _ 1 _ _ _ z)))))) (fun _ => rfl) z))
    (fun z => (congrFun (idx2 i _ _ _) z).trans (slotIdx i _ fillV _ 2 _ _ _ (fun z => ((past _ _ 2 1 _ _ _ _ (by decide) z).trans ((past _ _ 2 0 _ _ _ _ (by decide) z).trans ((past _ _ 2 4 _ _ _ _ (by decide) z).trans ((past _ _ 2 3 _ _ _ _ (by decide) z).trans (hit _ _ 2 _ _ _ z)))))) (fun _ => rfl) z))
    (fun z => (congrFun (idx3 i _ _ _) z).trans (slotIdx i _ fillV _ 3 _ _ _ (fun z => ((past _ _ 3 2 _ _ _ _ (by decide) z).trans ((past _ _ 3 1 _ _ _ _ (by decide) z).trans ((past _ _ 3 0 _ _ _ _ (by decide) z).trans ((past _ _ 3 4 _ _ _ _ (by decide) z).trans (hit _ _ 3 _ _ _ z)))))) (fun _ => rfl) z))
    (fun z => (congrFun (idx4 i _ _ _) z).trans (slotIdx i _ fillV _ 4 _ _ _ (fun z => ((past _ _ 4 3 _ _ _ _ (by decide) z).trans ((past _ _ 4 2 _ _ _ _ (by decide) z).trans ((past _ _ 4 1 _ _ _ _ (by decide) z).trans ((past _ _ 4 0 _ _ _ _ (by decide) z).trans (hit _ _ 4 _ _ _ z)))))) (fun _ => rfl) z))

set_option maxHeartbeats 4000000 in
/-- A chunk that is neither the row's first nor its last: both scratch arrays are updated, the output block is left alone. -/
theorem runMiddle (c : Dev nD) (i : grid0.Coords) (arg2 : Memref sig .tc .vmem S1x8x6144 .f32) (harg2 : arg2.IsWhole)
    (arg3 : Memref sig .tc .smem S1x1x5 .i32) (harg3 : arg3.IsWhole)
    (sc4 : Memref sig .tc .vmem S5x8x6144 .f32) (harg4 : sc4.IsWhole) (sc5 : Memref sig .tc .vmem S5x8x6144 .i32) (harg5 : sc5.IsWhole)
    (h1 : ¬ Scalar.cmpi .ne (Scalar.extui (Scalar.cmpi .eq (BitVec.ofNat 32 (i 1).val) 0#32) : BitVec 32) 0#32 = 1#1)
    (h2 : ¬ k0_cond2 i = 1#1)
    (f2 : Buf (Elt F) (arg2.view.loc (c : Thread nD τ))) (f3 : Buf (Elt F) (arg3.view.loc (c : Thread nD τ)))
    (f4 : Buf (Elt F) (sc4.view.loc (c : Thread nD τ))) (f5 : Buf (Elt F) (sc5.view.loc (c : Thread nD τ)))
    (K : PUnit → sProp 𝕄) :
    iprop((arg2.view.loc (c : Thread nD τ) ↦[arg2.view.set]{fullShare} f2) ∗ (arg3.view.loc (c : Thread nD τ) ↦[arg3.view.set]{fullShare} f3)
        ∗ (sc4.view.loc (c : Thread nD τ) ↦[sc4.view.set]{fullShare} f4) ∗ (sc5.view.loc (c : Thread nD τ) ↦[sc5.view.set]{fullShare} f5)
        ∗ (iprop((arg2.view.loc (c : Thread nD τ) ↦[arg2.view.set]{fullShare} f2)
          ∗ (arg3.view.loc (c : Thread nD τ) ↦[arg3.view.set]{fullShare} f3)
          ∗ (∃ g, ⌜sc4.view.read (Elt F) g = stepMax i (arg2.view.read (Elt F) f2) (sc4.view.read (Elt F) f4)⌝ ∗ sc4.view.loc (c : Thread nD τ) ↦[sc4.view.set]{fullShare} g)
          ∗ (∃ g, ⌜sc5.view.read (Elt F) g = stepIdx i (arg2.view.read (Elt F) f2) (sc4.view.read (Elt F) f4) (sc5.view.read (Elt F) f5)⌝
              ∗ sc5.view.loc (c : Thread nD τ) ↦[sc5.view.set]{fullShare} g)) -∗ K ⟨⟩))
      ⊢ wp frame (wpE (defs₀ (F := F)) Variants.none c none) Set.univ
          (cc0__body i arg2 harg2 arg3 harg3 sc4 harg4 sc5 harg5) K := by
  simp only [cc0__body_eq_skeleton]; unfold cc0__body_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton]
  iintro ⟨H2, H3, H4, H5, Hk⟩
  sl_exec_parts
  sl_step
  iapply Hk
  isplitl [H2]; · iexact H2
  isplitl [H3]; · iexact H3
  isplitl [H4]
  · iexists _
    isplitr
    swap; · iexact H4
    ipureintro
    rw [← full_read arg2 f2 inb_S1x8x6144_S1x8x6144_0_0_0]
    exact five sc4.view f4 _ _ _ _ _ _ []
      (fun z => (congrFun (max0 i _ _) z).trans (slotMax i _ _ 0 _ _ (fun _ => rfl) z))
      (fun z => (congrFun (max1 i _ _) z).trans (slotMax i _ _ 1 _ _ (fun _ => rfl) z))
      (fun z => (congrFun (max2 i _ _) z).trans (slotMax i _ _ 2 _ _ (fun _ => rfl) z))
      (fun z => (congrFun (max3 i _ _) z).trans (slotMax i _ _ 3 _ _ (fun _ => rfl) z))
      (fun z => (congrFun (max4 i _ _) z).trans (slotMax i _ _ 4 _ _ (fun _ => rfl) z))
  iexists _
  isplitr
  swap; · iexact H5
  ipureintro
  rw [← full_read arg2 f2 inb_S1x8x6144_S1x8x6144_0_0_0]
  exact five sc5.view f5 _ _ _ _ _ _ []
    (fun z => (congrFun (idx0 i _ _ _) z).trans (slotIdx i _ _ _ 0 _ _ _ (fun _ => rfl) (fun _ => rfl) z))
    (fun z => (congrFun (idx1 i _ _ _) z).trans (slotIdx i _ _ _ 1 _ _ _ (fun _ => rfl) (fun _ => rfl) z))
    (fun z => (congrFun (idx2 i _ _ _) z).trans (slotIdx i _ _ _ 2 _ _ _ (fun _ => rfl) (fun _ => rfl) z))
    (fun z => (congrFun (idx3 i _ _ _) z).trans (slotIdx i _ _ _ 3 _ _ _ (fun _ => rfl) (fun _ => rfl) z))
    (fun z => (congrFun (idx4 i _ _ _) z).trans (slotIdx i _ _ _ 4 _ _ _ (fun _ => rfl) (fun _ => rfl) z))

/-- Cell `k` of an output block. -/
abbrev cell (k : ℕ) (inb : ∀ a : Fin 3, (![0, 0, k] : Fin 3 → ℕ) a + S1x1x1.size a ≤ S1x1x5.size a) : Rect S1x1x5 :=
  Rect.unit (s := S1x1x5) ![0, 0, k] S1x1x1.size inb

theorem cell_at (k : ℕ) (hk : k < 5) (inb) (z : S1x1x1.Idx) : (cell k inb).emb z 2 = (⟨k, hk⟩ : Fin 5) := by
  apply Fin.ext
  rw [ValueKit.rect_emb_unit_val]
  have h : (z 2).val < 1 := (z 2).isLt
  show k + (z 2).val = k
  omega

theorem cell_mem (k : ℕ) (inb) (y : S1x1x5.Idx) (h : (y 2).val = k) : y ∈ (cell k inb).set := by
  refine Rect.mem_set_unit.2 fun a => ?_
  have h0 : (y 0).val < 1 := (y 0).isLt
  have h1 : (y 1).val < 1 := (y 1).isLt
  revert a
  show ∀ a : Fin 3, _
  rw [Fin.forall_fin_succ, Fin.forall_fin_two]
  refine ⟨?_, ?_, ?_⟩
  · show 0 ≤ (y 0).val ∧ (y 0).val < 0 + 1; omega
  · show 0 ≤ (y 1).val ∧ (y 1).val < 0 + 1; omega
  · show k ≤ (y 2).val ∧ (y 2).val < k + 1; omega

/-- An output block whose five cells were written, each with its sample's pick, reads as the picks. -/
theorem fiveCells {sp : Space} (v : View sig .tc sp S1x1x5 .i32) (f : v.ty.Contents (Elt F)) (V : S5x8x6144.Idx → F .f32)
    (W : S5x8x6144.Idx → BitVec 32) (g0 g1 g2 g3 g4 : BitVec 32)
    (h0 : g0 = pick (sliceAt V 0) (sliceAt W 0)) (h1 : g1 = pick (sliceAt V 1) (sliceAt W 1)) (h2 : g2 = pick (sliceAt V 2) (sliceAt W 2))
    (h3 : g3 = pick (sliceAt V 3) (sliceAt W 3)) (h4 : g4 = pick (sliceAt V 4) (sliceAt W 4)) :
    v.read (Elt F) (v.writes (Elt F) f [⟨cell 4 inb_S1x1x5_S1x1x1_0_0_4, fun _ => g4⟩, ⟨cell 3 inb_S1x1x5_S1x1x1_0_0_3, fun _ => g3⟩,
      ⟨cell 2 inb_S1x1x5_S1x1x1_0_0_2, fun _ => g2⟩, ⟨cell 1 inb_S1x1x5_S1x1x1_0_0_1, fun _ => g1⟩,
      ⟨cell 0 inb_S1x1x5_S1x1x1_0_0_0, fun _ => g0⟩]) = outOf V W := by
  funext y
  have hy : (y 2).val < 5 := (y 2).isLt
  refine View.read_writes_apply_of_pieces (Val := Elt F) v _ (outOf V W) _ ?_ y ?_
  · simp only [List.forall_mem_cons]
    refine ⟨fun z => ?_, fun z => ?_, fun z => ?_, fun z => ?_, fun z => ?_, fun _ h => absurd h List.not_mem_nil⟩
    · rw [outOf, cell_at 4 (by decide)]; exact h4
    · rw [outOf, cell_at 3 (by decide)]; exact h3
    · rw [outOf, cell_at 2 (by decide)]; exact h2
    · rw [outOf, cell_at 1 (by decide)]; exact h1
    · rw [outOf, cell_at 0 (by decide)]; exact h0
  · simp only [List.exists_mem_cons_iff]
    rcases (by omega : (y 2).val = 0 ∨ (y 2).val = 1 ∨ (y 2).val = 2 ∨ (y 2).val = 3 ∨ (y 2).val = 4) with h | h | h | h | h
    · exact .inr (.inr (.inr (.inr (.inl (cell_mem 0 _ y h)))))
    · exact .inr (.inr (.inr (.inl (cell_mem 1 _ y h))))
    · exact .inr (.inr (.inl (cell_mem 2 _ y h)))
    · exact .inr (.inl (cell_mem 3 _ y h))
    · exact .inl (cell_mem 4 _ y h)

set_option maxHeartbeats 4000000 in
/-- A row's last chunk: the arrays are updated and the five samples' positions are put out. -/
theorem runLast (c : Dev nD) (i : grid0.Coords) (arg2 : Memref sig .tc .vmem S1x8x6144 .f32) (harg2 : arg2.IsWhole)
    (arg3 : Memref sig .tc .smem S1x1x5 .i32) (harg3 : arg3.IsWhole)
    (sc4 : Memref sig .tc .vmem S5x8x6144 .f32) (harg4 : sc4.IsWhole) (sc5 : Memref sig .tc .vmem S5x8x6144 .i32) (harg5 : sc5.IsWhole)
    (h1 : ¬ Scalar.cmpi .ne (Scalar.extui (Scalar.cmpi .eq (BitVec.ofNat 32 (i 1).val) 0#32) : BitVec 32) 0#32 = 1#1)
    (h2 : k0_cond2 i = 1#1)
    (f2 : Buf (Elt F) (arg2.view.loc (c : Thread nD τ))) (f3 : Buf (Elt F) (arg3.view.loc (c : Thread nD τ)))
    (f4 : Buf (Elt F) (sc4.view.loc (c : Thread nD τ))) (f5 : Buf (Elt F) (sc5.view.loc (c : Thread nD τ)))
    (K : PUnit → sProp 𝕄) :
    iprop((arg2.view.loc (c : Thread nD τ) ↦[arg2.view.set]{fullShare} f2) ∗ (arg3.view.loc (c : Thread nD τ) ↦[arg3.view.set]{fullShare} f3)
        ∗ (sc4.view.loc (c : Thread nD τ) ↦[sc4.view.set]{fullShare} f4) ∗ (sc5.view.loc (c : Thread nD τ) ↦[sc5.view.set]{fullShare} f5)
        ∗ (iprop((arg2.view.loc (c : Thread nD τ) ↦[arg2.view.set]{fullShare} f2)
          ∗ (∃ g, ⌜arg3.view.read (Elt F) g = outOf (stepMax i (arg2.view.read (Elt F) f2) (sc4.view.read (Elt F) f4))
                (stepIdx i (arg2.view.read (Elt F) f2) (sc4.view.read (Elt F) f4) (sc5.view.read (Elt F) f5))⌝
              ∗ arg3.view.loc (c : Thread nD τ) ↦[arg3.view.set]{fullShare} g)
          ∗ (∃ g, ⌜sc4.view.read (Elt F) g = stepMax i (arg2.view.read (Elt F) f2) (sc4.view.read (Elt F) f4)⌝ ∗ sc4.view.loc (c : Thread nD τ) ↦[sc4.view.set]{fullShare} g)
          ∗ (∃ g, ⌜sc5.view.read (Elt F) g = stepIdx i (arg2.view.read (Elt F) f2) (sc4.view.read (Elt F) f4) (sc5.view.read (Elt F) f5)⌝
              ∗ sc5.view.loc (c : Thread nD τ) ↦[sc5.view.set]{fullShare} g)) -∗ K ⟨⟩))
      ⊢ wp frame (wpE (defs₀ (F := F)) Variants.none c none) Set.univ
          (cc0__body i arg2 harg2 arg3 harg3 sc4 harg4 sc5 harg5) K := by
  simp only [cc0__body_eq_skeleton]; unfold cc0__body_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton]
  iintro ⟨H2, H3, H4, H5, Hk⟩
  sl_exec_parts
  sl_step
  rw [← full_read arg2 f2 inb_S1x8x6144_S1x8x6144_0_0_0]
  have hM : ∀ f, sc4.view.read (Elt F) (sc4.view.writes (Elt F) f (runLast.sl.H4_5 c i arg2 sc4 f2 f4))
      = stepMax i (arg2.view.readAt (Elt F) (Rect.unit (s := S1x8x6144) ![0, 0, 0] S1x8x6144.size inb_S1x8x6144_S1x8x6144_0_0_0).toLoadRect f2)
        (sc4.view.read (Elt F) f4) := fun f =>
    five sc4.view f _ _ _ _ _ _ []
      (fun z => (congrFun (max0 i _ _) z).trans (slotMax i _ _ 0 _ _ (fun _ => rfl) z))
      (fun z => (congrFun (max1 i _ _) z).trans (slotMax i _ _ 1 _ _ (fun _ => rfl) z))
      (fun z => (congrFun (max2 i _ _) z).trans (slotMax i _ _ 2 _ _ (fun _ => rfl) z))
      (fun z => (congrFun (max3 i _ _) z).trans (slotMax i _ _ 3 _ _ (fun _ => rfl) z))
      (fun z => (congrFun (max4 i _ _) z).trans (slotMax i _ _ 4 _ _ (fun _ => rfl) z))
  have hI : ∀ f, sc5.view.read (Elt F) (sc5.view.writes (Elt F) f (runLast.sl.H5_5 c i arg2 sc4 sc5 f2 f4 f5))
      = stepIdx i (arg2.view.readAt (Elt F) (Rect.unit (s := S1x8x6144) ![0, 0, 0] S1x8x6144.size inb_S1x8x6144_S1x8x6144_0_0_0).toLoadRect f2)
        (sc4.view.read (Elt F) f4) (sc5.view.read (Elt F) f5) := fun f =>
    five sc5.view f _ _ _ _ _ _ []
      (fun z => (congrFun (idx0 i _ _ _) z).trans (slotIdx i _ _ _ 0 _ _ _ (fun _ => rfl) (fun _ => rfl) z))
      (fun z => (congrFun (idx1 i _ _ _) z).trans (slotIdx i _ _ _ 1 _ _ _ (fun _ => rfl) (fun _ => rfl) z))
      (fun z => (congrFun (idx2 i _ _ _) z).trans (slotIdx i _ _ _ 2 _ _ _ (fun _ => rfl) (fun _ => rfl) z))
      (fun z => (congrFun (idx3 i _ _ _) z).trans (slotIdx i _ _ _ 3 _ _ _ (fun _ => rfl) (fun _ => rfl) z))
      (fun z => (congrFun (idx4 i _ _ _) z).trans (slotIdx i _ _ _ 4 _ _ _ (fun _ => rfl) (fun _ => rfl) z))
  iapply Hk
  isplitl [H2]; · iexact H2
  isplitl [H3]
  · iexists _
    isplitr
    swap; · iexact H3
    ipureintro
    exact fiveCells arg3.view f3 _ _ _ _ _ _ _
      (congrArg₂ pick (funext fun z => (congrFun (hM sc4.view.junk) _).trans (slot_slice _ 0 _ z)) (funext fun z => (congrFun (hI sc5.view.junk) _).trans (slot_slice _ 0 _ z)))
      (congrArg₂ pick (funext fun z => (congrFun (hM sc4.view.junk) _).trans (slot_slice _ 1 _ z)) (funext fun z => (congrFun (hI sc5.view.junk) _).trans (slot_slice _ 1 _ z)))
      (congrArg₂ pick (funext fun z => (congrFun (hM sc4.view.junk) _).trans (slot_slice _ 2 _ z)) (funext fun z => (congrFun (hI sc5.view.junk) _).trans (slot_slice _ 2 _ z)))
      (congrArg₂ pick (funext fun z => (congrFun (hM sc4.view.junk) _).trans (slot_slice _ 3 _ z)) (funext fun z => (congrFun (hI sc5.view.junk) _).trans (slot_slice _ 3 _ z)))
      (congrArg₂ pick (funext fun z => (congrFun (hM sc4.view.junk) _).trans (slot_slice _ 4 _ z)) (funext fun z => (congrFun (hI sc5.view.junk) _).trans (slot_slice _ 4 _ z)))
  isplitl [H4]
  · iexists _
    isplitr
    swap; · iexact H4
    ipureintro
    exact hM f4
  iexists _
  isplitr
  swap; · iexact H5
  ipureintro
  exact hI f5

end Cert.KernelIdeal.Hand
end
-- ==== Proof.State.lean ====
/- What the two scratch arrays hold between grid points, as a function of the kernel's input array, and what the staged
   input block is. -/
module

public import proofs.«01_k».proof.Proof.BodyRun

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

/-- The row and the chunk of a grid point. -/
theorem coords_row (t : Fin grid0.N) : (grid0.coords t 0).val = t.val / 21 := by
  rw [Pipeline.Grid.coords_val (G := grid0) t 0 (S := 21) (B := 32) (by decide) rfl]
  have h : t.val < 672 := lt_of_lt_of_eq t.isLt N_0
  omega

theorem coords_chunk (t : Fin grid0.N) : (grid0.coords t 1).val = t.val % 21 := by
  rw [Pipeline.Grid.coords_val (G := grid0) t 1 (S := 1) (B := 21) (by decide) rfl, Nat.div_one]

/-- The body's two branch conditions: the first chunk, the last chunk. -/
theorem first_iff (i : grid0.Coords) :
    Scalar.cmpi .ne (Scalar.extui (Scalar.cmpi .eq (BitVec.ofNat 32 (i 1).val) 0#32) : BitVec 32) 0#32 = 1#1 ↔ (i 1).val = 0 :=
  (by decide : ∀ k : Fin 21, Scalar.cmpi .ne (Scalar.extui (Scalar.cmpi .eq (BitVec.ofNat 32 k.val) 0#32) : BitVec 32) 0#32 = 1#1 ↔ k.val = 0) (i 1)

theorem last_iff (i : grid0.Coords) : k0_cond2 i = 1#1 ↔ (i 1).val = 20 :=
  (by decide : ∀ k : Fin 21, Scalar.cmpi .ne (Scalar.extui (Scalar.cmpi .eq (BitVec.ofNat 32 k.val) 20#32) : BitVec 32) 0#32 = 1#1 ↔ k.val = 20) (i 1)

/-- The block of the input a grid point reads, zero past the array's end. -/
def blkOf (X : S32x8x125000.Idx → F .f32) (i : grid0.Coords) : Vec F S1x8x6144 .f32 := fun z =>
  if h : (i 1).val * 6144 + (z 2).val < 125000 then X (Fin.cons (i 0) (Fin.cons (z 1) (Fin.cons (⟨(i 1).val * 6144 + (z 2).val, h⟩ : Fin 125000) fun a => a.elim0)))
  else Scalar.ofBits .f32 0#32

theorem col_lt (i : grid0.Coords) (y : S8x6144.Idx) : (k0_pay8 i y).toNat = (i 1).val * 6144 + (y 1).val := by
  have h1 : (i 1).val < 21 := (i 1).isLt
  have h2 : (y 1).val < 6144 := (y 1).isLt
  show ((BitVec.ofNat 32 (i 1).val) * 6144#32 + iota .tc S8x6144 32 [1] iota_S8x6144_d1_w32 y).toNat = _
  rw [iota_single_apply]
  rw [BitVec.toNat_add, BitVec.toNat_mul, BitVec.toNat_ofNat, BitVec.toNat_ofNat]
  show ((i 1).val % 2 ^ 32 * 6144 % 2 ^ 32 + (y 1).val % 2 ^ 32) % 2 ^ 32 = _
  omega

/-- The masked logits read their block inside the array only. -/
theorem pay10_apply (i : grid0.Coords) (x : Vec F S1x8x6144 .f32) (y : S8x6144.Idx) :
    k0_pay10 i x y = if (i 1).val * 6144 + (y 1).val < 125000
      then FloatOps.log (FloatOps.addf (x (Fin.cons ⟨0, Nat.one_pos⟩ y)) (Scalar.ofBits .f32 0x0DA24260#32)) else Scalar.ofBits .f32 0xFF61B1E6#32 := by
  have e : shapeCast S8x6144 x shapeCasts_S1x8x6144_S8x6144 y = x (Fin.cons ⟨0, Nat.one_pos⟩ y) := shapeCast_dropUnit_apply ![8, 6144] x _ y
  rw [← e, ← col_lt]
  show Scalar.select (IntOp.cmpi .ult (k0_pay8 i y) 125000#32) _ _ = _
  unfold Scalar.select
  by_cases h : (k0_pay8 i y).toNat < 125000
  · rw [if_pos h]
    refine (if_pos ?_).trans rfl
    show BitVec.ofBool (decide ((k0_pay8 i y).toNat < 125000)) = 1#1
    rw [decide_eq_true h]; rfl
  · rw [if_neg h]
    refine (if_neg ?_).trans rfl
    show ¬ BitVec.ofBool (decide ((k0_pay8 i y).toNat < 125000)) = 1#1
    rw [decide_eq_false h]; decide

theorem pay10_congr (i : grid0.Coords) (x x' : Vec F S1x8x6144 .f32) (h : ∀ z : S1x8x6144.Idx, (i 1).val * 6144 + (z 2).val < 125000 → x z = x' z) :
    k0_pay10 i x = k0_pay10 i x' := by
  funext y
  rw [pay10_apply, pay10_apply]
  by_cases hc : (i 1).val * 6144 + (y 1).val < 125000
  · rw [if_pos hc, if_pos hc, h _ hc]
  · rw [if_neg hc, if_neg hc]

theorem stepMax_congr (i : grid0.Coords) (x x' : Vec F S1x8x6144 .f32) (h : ∀ z : S1x8x6144.Idx, (i 1).val * 6144 + (z 2).val < 125000 → x z = x' z)
    (V : S5x8x6144.Idx → F .f32) : stepMax i x V = stepMax i x' V := by
  unfold stepMax noisyS; rw [pay10_congr i x x' h]

theorem stepIdx_congr (i : grid0.Coords) (x x' : Vec F S1x8x6144 .f32) (h : ∀ z : S1x8x6144.Idx, (i 1).val * 6144 + (z 2).val < 125000 → x z = x' z)
    (V : S5x8x6144.Idx → F .f32) (W : S5x8x6144.Idx → BitVec 32) : stepIdx i x V W = stepIdx i x' V W := by
  unfold stepIdx noisyS; rw [pay10_congr i x x' h]

/-- The maxima after grid point `t`: a row starts from the fill. -/
def vAt (X : S32x8x125000.Idx → F .f32) : (t : ℕ) → t < grid0.N → S5x8x6144.Idx → F .f32
  | 0, h => stepMax (grid0.coords ⟨0, h⟩) (blkOf X (grid0.coords ⟨0, h⟩)) fillV
  | t + 1, h => stepMax (grid0.coords ⟨t + 1, h⟩) (blkOf X (grid0.coords ⟨t + 1, h⟩))
      (if (t + 1) % 21 = 0 then fillV else vAt X t (Nat.lt_of_succ_lt h))

/-- The positions after grid point `t`, its row started at positions `W₀`. -/
def wAt (X : S32x8x125000.Idx → F .f32) (W₀ : S5x8x6144.Idx → BitVec 32) : (t : ℕ) → t < grid0.N → S5x8x6144.Idx → BitVec 32
  | 0, h => stepIdx (grid0.coords ⟨0, h⟩) (blkOf X (grid0.coords ⟨0, h⟩)) fillV W₀
  | t + 1, h => stepIdx (grid0.coords ⟨t + 1, h⟩) (blkOf X (grid0.coords ⟨t + 1, h⟩))
      (if (t + 1) % 21 = 0 then fillV else vAt X t (Nat.lt_of_succ_lt h)) (if (t + 1) % 21 = 0 then W₀ else wAt X W₀ t (Nat.lt_of_succ_lt h))

theorem vAt_first (X : S32x8x125000.Idx → F .f32) (t : ℕ) (h : t < grid0.N) (h0 : t % 21 = 0) :
    vAt X t h = stepMax (grid0.coords ⟨t, h⟩) (blkOf X (grid0.coords ⟨t, h⟩)) fillV := by
  cases t with
  | zero => rfl
  | succ t => rw [vAt, if_pos h0]

theorem vAt_next (X : S32x8x125000.Idx → F .f32) (t : ℕ) (h : t + 1 < grid0.N) (h0 : (t + 1) % 21 ≠ 0) :
    vAt X (t + 1) h = stepMax (grid0.coords ⟨t + 1, h⟩) (blkOf X (grid0.coords ⟨t + 1, h⟩)) (vAt X t (Nat.lt_of_succ_lt h)) := by
  rw [vAt, if_neg h0]

theorem wAt_first (X : S32x8x125000.Idx → F .f32) (W₀ : S5x8x6144.Idx → BitVec 32) (t : ℕ) (h : t < grid0.N) (h0 : t % 21 = 0) :
    wAt X W₀ t h = stepIdx (grid0.coords ⟨t, h⟩) (blkOf X (grid0.coords ⟨t, h⟩)) fillV W₀ := by
  cases t with
  | zero => rfl
  | succ t => rw [wAt, if_pos h0, if_pos h0]

theorem wAt_next (X : S32x8x125000.Idx → F .f32) (W₀ : S5x8x6144.Idx → BitVec 32) (t : ℕ) (h : t + 1 < grid0.N) (h0 : (t + 1) % 21 ≠ 0) :
    wAt X W₀ (t + 1) h
      = stepIdx (grid0.coords ⟨t + 1, h⟩) (blkOf X (grid0.coords ⟨t + 1, h⟩)) (vAt X t (Nat.lt_of_succ_lt h)) (wAt X W₀ t (Nat.lt_of_succ_lt h)) := by
  rw [wAt, if_neg h0, if_neg h0]

variable (m : (ℓ : Loc nD τ sig) → Buf (Elt F) ℓ)

/-- The input array as the grid finds it. -/
abbrev inp (c : Dev nD) : S32x8x125000.Idx → F .f32 := V m c main_call0_v0

/-- What the scratch arrays hold before point `t`, unless a row starts there. -/
def Inv (c : Dev nD) (t : ℕ) (S0 : S5x8x6144.Idx → F .f32) (S1 : S5x8x6144.Idx → BitVec 32) : Prop :=
  t % 21 ≠ 0 → ∃ h : t - 1 < grid0.N, S0 = vAt (inp m c) (t - 1) h ∧ ∃ W₀, S1 = wAt (inp m c) W₀ (t - 1) h

local notation "𝕄" => MT nD τ sig Unit (Elt F) ℕ (UR sig nD τ) ℕ

/-- The proof's data: what a row's last point leaves in the output block, and the invariant on the scratch arrays. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ X => t.val % 21 = 20 → ∃ W₀, X = outOf (vAt (inp m c) t.val t.isLt) (wAt (inp m c) W₀ t.val t.isLt)
  Φ t := iprop(∃ S0 S1, ⌜Inv m c t.val S0 S1⌝ ∗ owns (c : Thread nD τ) (Memref.whole cc0_scratch0) fullShare S0
    ∗ owns (c : Thread nD τ) (Memref.whole cc0_scratch1) fullShare S1 ∗ ∃ r, prngReg c r)
  q _ := fullShare
  owed _ := 0

/-- The staged input block at point `t` is the array's block, inside the array. -/
theorem found (c : Dev nD) (t : Fin cfg0.N) (Y : S1x8x6144.Idx → F .f32) (hY : (rdat m c).Finds 0 t Y) (z : S1x8x6144.Idx)
    (hz : (grid0.coords t 1).val * 6144 + (z 2).val < 125000) : Y z = blkOf (inp m c) (grid0.coords t) z := by
  obtain ⟨d, rfl⟩ := ((rdat m c).finds_of_fetch (fetch0_0 t) Y).1 hY
  have i0 : (grid0.coords t 0).val < 32 := (grid0.coords t 0).isLt
  have i1 : (grid0.coords t 1).val < 21 := (grid0.coords t 1).isLt
  have z0 : (z 0).val < 1 := (z 0).isLt
  have z1 : (z 1).val < 8 := (z 1).isLt
  have z2 : (z 2).val < 6144 := (z 2).isLt
  have e0 : cc0_transform_0 (grid0.coords t) 0 = (grid0.coords t 0).val := by
    show (BitVec.ofNat 32 (grid0.coords t 0).val).toNat = _
    rw [BitVec.toNat_ofNat]; omega
  have e1 : cc0_transform_0 (grid0.coords t) 1 = 0 := rfl
  have e2 : cc0_transform_0 (grid0.coords t) 2 = (grid0.coords t 1).val := by
    show (BitVec.ofNat 32 (grid0.coords t 1).val).toNat = _
    rw [BitVec.toNat_ofNat]; omega
  have hm : win0_0.moved (grid0.coords t) z = true := by
    refine (win0_0.moved_iff _ _).2 ?_
    show ∀ a : Fin 3, (z a).val < (Pipeline.Clip.of (cc0_transform_0 (grid0.coords t) a) (S1x8x6144.size a) (S32x8x125000.size a)).extent (S1x8x6144.size a)
    rw [Fin.forall_fin_succ, Fin.forall_fin_two]
    refine ⟨?_, ?_, ?_⟩
    · show (z 0).val < (Pipeline.Clip.of (cc0_transform_0 (grid0.coords t) 0) 1 32).extent 1
      rw [e0, Pipeline.Clip.of, if_pos (by omega)]; exact z0
    · show (z 1).val < (Pipeline.Clip.of (cc0_transform_0 (grid0.coords t) 1) 8 8).extent 8
      rw [e1, Pipeline.Clip.of, if_pos (by omega)]; exact z1
    · show (z 2).val < (Pipeline.Clip.of (cc0_transform_0 (grid0.coords t) 2) 6144 125000).extent 6144
      rw [e2, Pipeline.Clip.of]
      split
      · exact z2
      · show (z 2).val < 125000 - (grid0.coords t 1).val * 6144
        omega
  show win0_0.fill (grid0.coords t) d ((rdat m c).blockOf 0 t) z = _
  unfold Pipeline.Window.fill
  rw [dif_pos hm, blkOf, dif_pos hz]
  show V m c main_call0_v0 ((win0_0.rect t).emb _) = _
  refine congrArg (V m c main_call0_v0) ?_
  funext a
  apply Fin.ext
  refine (Pipeline.Window.rect_emb_val win0_0 t _ a).trans ?_
  revert a
  show ∀ a : Fin 3, _
  rw [Fin.forall_fin_succ, Fin.forall_fin_two]
  refine ⟨?_, ?_, ?_⟩
  · show cc0_transform_0 (grid0.coords t) 0 * 1 + (z 0).val = (grid0.coords t 0).val
    omega
  · show cc0_transform_0 (grid0.coords t) 1 * 8 + (z 1).val = (z 1).val
    omega
  · show cc0_transform_0 (grid0.coords t) 2 * 6144 + (z 2).val = (grid0.coords t 1).val * 6144 + (z 2).val
    omega

end Cert.KernelIdeal.Hand
end
-- ==== Proof.Point.lean ====
/- One grid point keeps the scratch arrays' invariant and leaves a row's picks in the output block at the row's last chunk. -/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-- The scratch contents after a point, in every case of its chunk: from the invariant before it to the invariant after it. -/
theorem inv_first (c : Dev nD) (t : Fin cfg0.N) (Y : S1x8x6144.Idx → F .f32) (hY : (rdat m c).Finds 0 t Y) (h0 : t.val % 21 = 0)
    (S1 : S5x8x6144.Idx → BitVec 32) :
    Inv m c (t.val + 1) (stepMax (grid0.coords t) Y fillV) (stepIdx (grid0.coords t) Y fillV S1) := fun _ =>
  ⟨t.isLt, (stepMax_congr _ _ _ (found m c t Y hY) _).trans (vAt_first _ t.val t.isLt h0).symm,
    S1, (stepIdx_congr _ _ _ (found m c t Y hY) _ _).trans (wAt_first _ _ t.val t.isLt h0).symm⟩

theorem inv_next (c : Dev nD) (t : Fin cfg0.N) (Y : S1x8x6144.Idx → F .f32) (hY : (rdat m c).Finds 0 t Y) (h0 : t.val % 21 ≠ 0)
    (S0 : S5x8x6144.Idx → F .f32) (S1 : S5x8x6144.Idx → BitVec 32) (h : Inv m c t.val S0 S1) :
    stepMax (grid0.coords t) Y S0 = vAt (inp m c) t.val t.isLt
      ∧ ∃ W₀, stepIdx (grid0.coords t) Y S0 S1 = wAt (inp m c) W₀ t.val t.isLt := by
  obtain ⟨n, hn⟩ := t
  obtain ⟨h', rfl, W₀, rfl⟩ := h h0
  cases n with
  | zero => exact absurd rfl h0
  | succ n =>
    exact ⟨(stepMax_congr _ _ _ (found m c _ Y hY) _).trans (vAt_next _ n hn h0).symm,
      W₀, (stepIdx_congr _ _ _ (found m c _ Y hY) _ _).trans (wAt_next _ _ n hn h0).symm⟩

/-- The output block's memref at a point. -/
abbrev ms1 (t : Fin cfg0.N) : Memref sig .tc .smem S1x1x5 .i32 := win0_1.stage (cfg0.slots t 1)
/-- The input block's. -/
abbrev ms0 (t : Fin cfg0.N) : Memref sig .tc .vmem S1x8x6144 .f32 := win0_0.stage (cfg0.slots t 0)

/-- What the body is called with at a point, and what it returns. -/
def bodyPre (c : Dev nD) (t : Fin cfg0.N) (Y0 : S1x8x6144.Idx → F .f32) (Y1 : S1x1x5.Idx → BitVec 32) : sProp 𝕄 :=
  iprop((rdat m c).Φ t.castSucc ∗ (rdat m c).owesAt () t.castSucc
    ∗ owns (c : Thread nD τ) (ms0 t) fullShare Y0 ∗ owns (c : Thread nD τ) (ms1 t) fullShare Y1)
def bodyPost (c : Dev nD) (t : Fin cfg0.N) (Y0 : S1x8x6144.Idx → F .f32) (Y1 : S1x1x5.Idx → BitVec 32) : sProp 𝕄 :=
  iprop((rdat m c).Φ t.succ ∗ (rdat m c).owesAt () t.succ
    ∗ (∃ X, ⌜(rdat m c).after 0 t Y0 X⌝ ∗ owns (c : Thread nD τ) (ms0 t) fullShare X)
    ∗ (∃ X, ⌜(rdat m c).after 1 t Y1 X⌝ ∗ owns (c : Thread nD τ) (ms1 t) fullShare X))

theorem point (c : Dev nD) (t : Fin cfg0.N) (Y0 : S1x8x6144.Idx → F .f32) (Y1 : S1x1x5.Idx → BitVec 32) (hY : (rdat m c).Finds 0 t Y0) :
    bodyPre m c t Y0 Y1 ⊢ wp frame (wpE (defs₀ (F := F)) Variants.none c none) Set.univ (bodyAt0 t) (fun _ => bodyPost m c t Y0 Y1) := by
  have hc := coords_chunk t
  unfold bodyPre bodyPost bodyAt0
  rw [show (rdat m c).owesAt () t.succ = (rdat m c).owesAt () t.castSucc from rfl]
  dsimp only [rdat]
  unfold owns
  iintro ⟨⟨%S0, %S1, %hI, ⟨%f4, %e4, H4⟩, ⟨%f5, %e5, H5⟩, Hp⟩, HO, ⟨%f2, %e2, H2⟩, ⟨%f3, %e3, H3⟩⟩
  subst e4 e5 e2 e3
  by_cases h0 : t.val % 21 = 0
  · iapply (runFirst c (grid0.coords t) (ms0 t) (hstage0_0 ((cfg0.slots t 0).cast nbuf0_0)) (ms1 t) (hstage0_1 ((cfg0.slots t 1).cast nbuf0_1))
      (Memref.whole cc0_scratch0) (Memref.isWhole_whole _) (Memref.whole cc0_scratch1) (Memref.isWhole_whole _)
      ((first_iff _).2 (hc.trans h0)) (fun h => by have := (last_iff _).1 h; omega) f2 f3 f4 f5 _)
    isplitl [H2]; · iexact H2
    isplitl [H3]; · iexact H3
    isplitl [H4]; · iexact H4
    isplitl [H5]; · iexact H5
    iintro ⟨H2, H3, ⟨%g4, %e4, H4⟩, ⟨%g5, %e5, H5⟩⟩
    isplitl [H4 H5 Hp]
    · iexists _, _
      isplitr
      swap
      · isplitl [H4]
        · iexists g4; isplitr
          swap; · iexact H4
          ipureintro; exact e4
        isplitl [H5]
        · iexists g5; isplitr
          swap; · iexact H5
          ipureintro; exact e5
        iexact Hp
      ipureintro
      exact inv_first m c t _ hY h0 _
    isplitl [HO]; · iexact HO
    isplitl [H2]
    · iexists _; isplitr
      swap; · iexists f2; isplitr
              swap; · iexact H2
              ipureintro; rfl
      ipureintro; trivial
    iexists _; isplitr
    swap; · iexists f3; isplitr
            swap; · iexact H3
            ipureintro; rfl
    ipureintro
    intro h; omega
  by_cases h1 : t.val % 21 = 20
  · iapply (runLast c (grid0.coords t) (ms0 t) (hstage0_0 ((cfg0.slots t 0).cast nbuf0_0)) (ms1 t) (hstage0_1 ((cfg0.slots t 1).cast nbuf0_1))
      (Memref.whole cc0_scratch0) (Memref.isWhole_whole _) (Memref.whole cc0_scratch1) (Memref.isWhole_whole _)
      (fun h => h0 (hc.symm.trans ((first_iff _).1 h))) ((last_iff _).2 (hc.trans h1)) f2 f3 f4 f5 _)
    isplitl [H2]; · iexact H2
    isplitl [H3]; · iexact H3
    isplitl [H4]; · iexact H4
    isplitl [H5]; · iexact H5
    iintro ⟨H2, ⟨%g3, %e3, H3⟩, ⟨%g4, %e4, H4⟩, ⟨%g5, %e5, H5⟩⟩
    isplitl [H4 H5 Hp]
    · iexists _, _
      isplitr
      swap
      · isplitl [H4]
        · iexists g4; isplitr
          swap; · iexact H4
          ipureintro; exact e4
        isplitl [H5]
        · iexists g5; isplitr
          swap; · iexact H5
          ipureintro; exact e5
        iexact Hp
      ipureintro
      intro h; exact absurd (show (t.val + 1) % 21 = 0 by omega) h
    isplitl [HO]; · iexact HO
    isplitl [H2]
    · iexists _; isplitr
      swap; · iexists f2; isplitr
              swap; · iexact H2
              ipureintro; rfl
      ipureintro; trivial
    iexists _; isplitr
    swap; · iexists g3; isplitr
            swap; · iexact H3
            ipureintro; exact e3
    ipureintro
    intro _
    obtain ⟨hv, W₀, hw⟩ := inv_next m c t _ hY h0 _ _ hI
    exact ⟨W₀, congrArg₂ outOf hv hw⟩
  · iapply (runMiddle c (grid0.coords t) (ms0 t) (hstage0_0 ((cfg0.slots t 0).cast nbuf0_0)) (ms1 t) (hstage0_1 ((cfg0.slots t 1).cast nbuf0_1))
      (Memref.whole cc0_scratch0) (Memref.isWhole_whole _) (Memref.whole cc0_scratch1) (Memref.isWhole_whole _)
      (fun h => h0 (hc.symm.trans ((first_iff _).1 h))) (fun h => h1 (hc.symm.trans ((last_iff _).1 h))) f2 f3 f4 f5 _)
    isplitl [H2]; · iexact H2
    isplitl [H3]; · iexact H3
    isplitl [H4]; · iexact H4
    isplitl [H5]; · iexact H5
    iintro ⟨H2, H3, ⟨%g4, %e4, H4⟩, ⟨%g5, %e5, H5⟩⟩
    isplitl [H4 H5 Hp]
    · iexists _, _
      isplitr
      swap
      · isplitl [H4]
        · iexists g4; isplitr
          swap; · iexact H4
          ipureintro; exact e4
        isplitl [H5]
        · iexists g5; isplitr
          swap; · iexact H5
          ipureintro; exact e5
        iexact Hp
      ipureintro
      intro _
      obtain ⟨hv, W₀, hw⟩ := inv_next m c t _ hY h0 _ _ hI
      exact ⟨t.isLt, hv, W₀, hw⟩
    isplitl [HO]; · iexact HO
    isplitl [H2]
    · iexists _; isplitr
      swap; · iexists f2; isplitr
              swap; · iexact H2
              ipureintro; rfl
      ipureintro; trivial
    iexists _; isplitr
    swap; · iexists f3; isplitr
            swap; · iexact H3
            ipureintro; rfl
    ipureintro
    intro h; exact absurd h h1

/-- The body table's row at a point is the body called there. -/
theorem defs₀_row (t : Fin cfg0.N) : defs₀ (F := F) .tc cfg0.body (cfg0.bodyArgs t (cfg0.slots t)) = bodyAt0 t := by
  unfold defs₀; rw [Defs.onTc_tc]

/-- The body obligation of the proof's data. -/
theorem body_obligation (c : Dev nD) : (rdat (F := F) m c).BodyObligation (defs₀ (F := F)) Variants.none () Set.univ := fun t Y hY => by
  rw [bigSep_W0, bigSep_W0, defs₀_row]
  exact triple_restated (point m c t (Y 0) (Y 1) (hY 0)) rfl .rfl fun _ => .rfl

end Cert.KernelIdeal.Hand
end
-- ==== Proof.Launch.lean ====
/- The kernel program's run: it ends with the argument unchanged, every counter at zero, and the result the reshape of an
   array the grid may leave. -/
module

public import proofs.«01_k».proof.Proof.Point

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the host lines after the grid leave, the grid's arrays at `A`. -/
abbrev tail (c : Dev nD) (A : (w : Fin cfg0.W) → Buf (Elt F) ((cfg0.win w).arr.view.loc (c : Thread nD τ))) (b : Ref sig .tc) :
    Buf (Elt F) ((c : Thread nD τ).loc b) :=
  StableHlo.after [hostOps1].flatten (withArrays spec0 c (V0 m c) A) (Proc.devRef .tc b)

/-- The buffers that bypass the grid. -/
abbrev bypass : Finset (Ref sig .tc) := restRefsP sig Prefetch.none spec0

/-- Before the first point the invariant asks nothing of the scratch arrays. -/
theorem enter (c : Dev nD) : (ΦA spec0 c : sProp 𝕄) ⊢ (rdat m c).Φ 0 := by
  unfold ΦA
  rw [scopedRest0_eq]
  dsimp only [rdat]
  iintro ⟨⟨⟨%f4, H4⟩, ⟨%f5, H5⟩⟩, Hp⟩
  iexists f4, f5
  isplitr; · ipureintro; exact fun h => absurd rfl h
  rw [owns_whole, owns_whole]
  isplitl [H4]; · iexact H4
  isplitl [H5]; · iexact H5
  iexact Hp

/-- After the last point the scratch arrays are handed back at some contents. -/
theorem leave (c : Dev nD) : (rdat m c).Φ (Fin.last cfg0.N) ⊢ (ΦA spec0 c : sProp 𝕄) := by
  unfold ΦA
  rw [scopedRest0_eq]
  dsimp only [rdat]
  iintro ⟨%S0, %S1, -, H4, H5, Hp⟩
  ihave H4 := (Entails.of_eq (owns_whole (c : Thread nD τ) cc0_scratch0 fullShare S0)) $$ H4
  ihave H5 := (Entails.of_eq (owns_whole (c : Thread nD τ) cc0_scratch1 fullShare S1)) $$ H5
  isplitl [H4 H5]
  · isplitl [H4]
    · iexists S0; iexact H4
    · iexists S1; iexact H5
  iexact Hp

/-- The arrays after every write-back, each at some contents it may then hold. -/
theorem open_arrays (c : Dev nD) : ((rdat m c).arraysAt cfg0.N : sProp 𝕄)
    ⊢ iprop(∃ A, ⌜∀ w, (rdat m c).ArrAt w cfg0.N (A w)⌝ ∗ (rdat m c).arrays A) := by
  unfold RDat.arraysAt RDat.arrays
  rw [bigSep_W0]
  iintro ⟨⟨%F0, %h0, H0⟩, ⟨%F1, %h1, H1⟩⟩
  iexists (fun | 0 => F0 | 1 => F1 | ⟨_ + 2, h⟩ => absurd h (Nat.not_lt.2 (Nat.le_add_left _ _)))
  isplitr
  · ipureintro; exact Fin.forall_fin_two.2 ⟨h0, h1⟩
  rw [bigSep_W0]
  isplitl [H0]; · iexact H0
  iexact H1

theorem close_arrays (c : Dev nD) (A) (hA : ∀ w, (rdat m c).ArrAt w cfg0.N (A w)) :
    ((rdat m c).arrays A : sProp 𝕄) ⊢ (rdat m c).arraysAt cfg0.N := by
  unfold RDat.arraysAt RDat.arrays
  rw [bigSep_W0, bigSep_W0]
  iintro ⟨H0, H1⟩
  isplitl [H0]
  · iexists A 0; isplitr; · ipureintro; exact hA 0
    iexact H0
  iexists A 1; isplitr; · ipureintro; exact hA 1
  iexact H1

/-- The grid's arrays at `A` are the buffers of the valuation that holds them. -/
theorem arrays_bufs (c : Dev nD) (A : (w : Fin cfg0.W) → Buf (Elt F) ((cfg0.win w).arr.view.loc (c : Thread nD τ))) :
    ((rdat m c).arrays A : sProp 𝕄) = arrBufs spec0 c (fun b => withArrays spec0 c (V0 m c) A (Proc.devRef .tc b)) :=
  ((rdat m c).arrBufs_eq_arrays launch0.to₀.sharedIn launch0.arr_whole
    (fun w hw => (rdat m c).q_eq_shareOf_of_share_full launch0.win.arr_inj (fun w => by unfold RDat.share; split <;> rfl) w hw) _ A
    fun w => (withArrays_arr spec0 launch0.win.arr_inj c (V0 m c) A w).symm).symm

/-- What the final memory holds on a core: for some array contents the grid may leave, every bypassing buffer as the host lines
    leave it from them. -/
def Left (c : Dev nD) (s : MemSt nD τ sig (Elt F)) : Prop :=
  ∃ A, (∀ w, (rdat m c).ArrAt w cfg0.N (A w)) ∧ ∀ b ∈ bypass, s.mem ((c : Thread nD τ).loc b) = tail m c A b

/-- THE RUN: every execution ends, each core as `Left` says and every counter at zero. -/
theorem run_left :
    θ_run defs (onTc (τ := τ) (main (F := F))) (s₀ m ρ) (fun r => (∀ c, Left m c r.2) ∧ r.2.sem = fun _ => 0) := by
  classical
  let pcs : (q : Fin 1) → PCfg sig Λ₀ (Elt F) := fun q => (cfgs q).toPCfg (Val := Elt F)
  let adm : (q : Fin 1) → (pcs q).Adm := fun q => (cfgs q).toPCfg_adm
  have kit := launch0.toP (Val := Elt F)
  have self : ∀ c, RDat.familyOf pcs adm 0 (rdat m) 0 c = rdat m c := fun c => RDat.familyOf_self pcs adm 0 (rdat m) c
  refine RDat.θ_run_region_pf_tail_quiescent pcs adm (RDat.familyOf pcs adm 0 (rdat m)) () (kit.cellOf_inj adm) 0 kit.to₀.win
    (OwnSemFacts.none spec0) kit.pre emb₁ defs₀ Variants.none m ρ main (fun _ => chain ([hostOps1].map StableHlo.seq))
    (fun c => by rw [self]; exact body_obligation m c) kit.block_pos kit.arr_whole kit.stage_whole (fun c t => by rw [self]; rfl)
    (G := fun _ => iprop(emp)) (u₀ := initOf (cells (pin pcs adm) (kit.cellOf_inj adm)) (launchToks (pin pcs adm) (kit.cellOf_inj adm)))
    (V := V m) (hmain := hmain m Variants.none) (hpf := fun _ k => k.elim0)
    (X := fun c => iprop(∃ r, prngReg c r)) (Y := fun c => iprop(∃ r, prngReg c r))
    (Z := fun c => unscopedRestP Prefetch.none spec0 c (V m c))
    (Z' := fun c => iprop(∃ A, ⌜∀ w, (rdat m c).ArrAt w cfg0.N (A w)⌝ ∗ unscopedRestP Prefetch.none spec0 c (tail m c A)))
    (QY := Left m) (hu₀ := ?_) (hsplit := ?_) (hX := ?_) (hin := ?_) (hout := ?_) (htail := ?_) (hY := ?_) (hQ := ?_)
  · iintro Hu
    imodintro
    isplitl [Hu]
    · iapply (show (ownU _ : sProp 𝕄) ⊢ BI.own (emb₁ (initOf (cells (pin pcs adm) (kit.cellOf_inj adm)) (launchToks (pin pcs adm) (kit.cellOf_inj adm)))) from .rfl)
      iexact Hu
    iapply (show (BI.emp : sProp 𝕄) ⊢ bigSep Finset.univ (fun _ : Dev nD => (BI.emp : sProp 𝕄)) from by rw [BI.bigSep_emp_const])
    iempintro
  · intro c
    rw [self]
    have h := arrays_bufs m c (fun w => V m c (arrRef spec0 w))
    have e : (fun b => withArrays spec0 c (V0 m c) (fun w => V m c (arrRef spec0 w)) (Proc.devRef .tc b)) = V m c := by
      funext b
      by_cases hb : ∃ w, arrRef spec0 w = b
      · obtain ⟨w, rfl⟩ := hb
        exact withArrays_arr spec0 launch0.win.arr_inj c (V0 m c) _ w
      · exact withArrays_of_ne spec0 c (V0 m c) _ b fun w e => hb ⟨w, e⟩
    rw [e] at h
    exact Entails.of_eq h.symm
  · intro c
    iintro ⟨HU, -, -, Hp, -⟩
    imodintro
    isplitl [Hp]; · iexists _; iexact Hp
    iexact HU
  · intro c
    rw [self]
    refine BIBase.Entails.trans ?_ (enter m c)
    unfold ΦA
    iintro ⟨Hp, -, Hr⟩
    isplitl [Hr]; · iexact Hr
    iexact Hp
  · intro c
    rw [self]
    refine BIBase.Entails.trans (leave m c) ?_
    rw [ownSems0_none]
    unfold ΦA
    iintro ⟨Hr, Hp⟩
    isplitl [Hp]; · iexact Hp
    isplitr; · iempintro
    iexact Hr
  · intro c Q'
    rw [self]
    iintro ⟨Hk, Hb, Ha, HZ⟩
    ihave Ha := (open_arrays m c) $$ Ha
    icases Ha with ⟨%A, %hA, Ha⟩
    iapply (tail_seqs_bufs_b pcs defs₀ Variants.none Prefetch.none spec0 c (V0 m c) A [hostOps1] sfx_sub sfx_fresh sfx_keeps Q')
    isplitl [Hk]
    · iintro ⟨Hb, Ha, Hu⟩
      iapply Hk
      isplitl [Hb]; · iexact Hb
      isplitl [Ha]; · iapply (close_arrays m c A hA); iapply (Entails.of_eq (arrays_bufs m c A).symm); iexact Ha
      iexists A
      isplitr; · ipureintro; exact hA
      iexact Hu
    isplitl [Hb]; · iexact Hb
    isplitl [Ha]; · iapply (Entails.of_eq (arrays_bufs m c A)); iexact Ha
    iexact HZ
  · intro c s'
    iintro ⟨-, HZ, HSI⟩
    icases HZ with ⟨%A, %hA, HZ⟩
    unfold unscopedRestP
    ihave H := (pointsTo_read_all bypass (fun b => (c : Thread nD τ).loc b) (tail m c A) s') $$ [HZ HSI]
    · isplitl [HZ]; · iexact HZ
      iexact HSI
    icases H with ⟨%h, HSI⟩
    imodintro
    isplitr; · ipureintro; exact ⟨A, hA, h⟩
    iexact HSI
  · intro s h hz
    exact ⟨fun c => (h c).2.2, hz⟩

end Cert.KernelIdeal.Hand
end
-- ==== Proof.KernelFrame.lean ====
/- The frame of the compiled kernel program: it ends, its argument unchanged and every counter at zero. -/
module

public import proofs.«01_k».proof.Proof.Launch
public import proofs.«01_k».proof.Proof.Gen.Kernel.Frame
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat ΦA)

variable {F : FTy → Type} [FloatOps F] [∀ e, Nonempty (Elt F e)]

local notation "𝕄" => MT nD τ sig Unit (Elt F) ℕ (UR sig nD τ) ℕ

set_option maxHeartbeats 4000000 in
/-- The body runs to its return from any contents of its four buffers, whatever its two branch conditions are. -/
theorem bodyRuns (c : Dev nD) (i : grid0.Coords) (arg2 : Memref sig .tc .vmem S1x8x6144 .f32) (harg2 : arg2.IsWhole)
    (arg3 : Memref sig .tc .smem S1x1x5 .i32) (harg3 : arg3.IsWhole)
    (sc4 : Memref sig .tc .vmem S5x8x6144 .f32) (harg4 : sc4.IsWhole) (sc5 : Memref sig .tc .vmem S5x8x6144 .i32) (harg5 : sc5.IsWhole)
    (f2 : Buf (Elt F) (arg2.view.loc (c : Thread nD τ))) (f3 : Buf (Elt F) (arg3.view.loc (c : Thread nD τ)))
    (f4 : Buf (Elt F) (sc4.view.loc (c : Thread nD τ))) (f5 : Buf (Elt F) (sc5.view.loc (c : Thread nD τ)))
    (K : PUnit → sProp 𝕄) :
    iprop((arg2.view.loc (c : Thread nD τ) ↦[arg2.view.set]{fullShare} f2) ∗ (arg3.view.loc (c : Thread nD τ) ↦[arg3.view.set]{fullShare} f3)
        ∗ (sc4.view.loc (c : Thread nD τ) ↦[sc4.view.set]{fullShare} f4) ∗ (sc5.view.loc (c : Thread nD τ) ↦[sc5.view.set]{fullShare} f5)
        ∗ (iprop((arg2.view.loc (c : Thread nD τ) ↦[arg2.view.set]{fullShare} f2)
          ∗ (∃ g, arg3.view.loc (c : Thread nD τ) ↦[arg3.view.set]{fullShare} g)
          ∗ (∃ g, sc4.view.loc (c : Thread nD τ) ↦[sc4.view.set]{fullShare} g)
          ∗ (∃ g, sc5.view.loc (c : Thread nD τ) ↦[sc5.view.set]{fullShare} g)) -∗ K ⟨⟩))
      ⊢ wp frame (wpE (defs₀ (F := F)) Variants.none c none) Set.univ
          (cc0__body i arg2 harg2 arg3 harg3 sc4 harg4 sc5 harg5) K := by
  simp only [cc0__body_eq_skeleton]; unfold cc0__body_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton]
  by_cases h1 : Scalar.cmpi .ne (Scalar.extui (Scalar.cmpi .eq (BitVec.ofNat 32 (i 1).val) 0#32) : BitVec 32) 0#32 = 1#1
  all_goals by_cases h2 : k0_cond2 i = 1#1
  all_goals
    iintro ⟨H2, H3, H4, H5, Hk⟩
    sl_exec_parts
    sl_step
    iapply Hk
    isplitl [H2]; · iexact H2
    isplitl [H3]; · iexists _; iexact H3
    isplitl [H4]; · iexists _; iexact H4
    iexists _; iexact H5

variable (m : (ℓ : Loc nD τ sig) → Buf (Elt F) ℓ) (ρ : Dev nD → PrngReg)

/-- The proof's data: nothing is said of what the body leaves. -/
def rdat (c : Dev nD) : RDat τ (Elt F) Unit ℕ (UR sig nD τ) ℕ cfg0 c where
  A w := V m c (Pipeline.arrRef spec0 w)
  after _ _ := fun _ _ => True
  Φ _ := ΦA spec0 c
  q _ := fullShare
  owed _ := 0

abbrev ms0 (t : Fin cfg0.N) : Memref sig .tc .vmem S1x8x6144 .f32 := win0_0.stage (cfg0.slots t 0)
abbrev ms1 (t : Fin cfg0.N) : Memref sig .tc .smem S1x1x5 .i32 := win0_1.stage (cfg0.slots t 1)

def bodyPre (c : Dev nD) (t : Fin cfg0.N) (Y0 : S1x8x6144.Idx → F .f32) (Y1 : S1x1x5.Idx → BitVec 32) : sProp 𝕄 :=
  iprop((rdat m c).Φ t.castSucc ∗ (rdat m c).owesAt () t.castSucc
    ∗ owns (c : Thread nD τ) (ms0 t) fullShare Y0 ∗ owns (c : Thread nD τ) (ms1 t) fullShare Y1)
def bodyPost (c : Dev nD) (t : Fin cfg0.N) (Y0 : S1x8x6144.Idx → F .f32) (Y1 : S1x1x5.Idx → BitVec 32) : sProp 𝕄 :=
  iprop((rdat m c).Φ t.succ ∗ (rdat m c).owesAt () t.succ
    ∗ (∃ X, ⌜(rdat m c).after 0 t Y0 X⌝ ∗ owns (c : Thread nD τ) (ms0 t) fullShare X)
    ∗ (∃ X, ⌜(rdat m c).after 1 t Y1 X⌝ ∗ owns (c : Thread nD τ) (ms1 t) fullShare X))

theorem point (c : Dev nD) (t : Fin cfg0.N) (Y0 : S1x8x6144.Idx → F .f32) (Y1 : S1x1x5.Idx → BitVec 32) :
    bodyPre m c t Y0 Y1 ⊢ wp frame (wpE (defs₀ (F := F)) Variants.none c none) Set.univ (bodyAt0 t) (fun _ => bodyPost m c t Y0 Y1) := by
  unfold bodyPre bodyPost bodyAt0
  rw [show (rdat m c).owesAt () t.succ = (rdat m c).owesAt () t.castSucc from rfl]
  dsimp only [rdat]
  unfold ΦA
  rw [scopedRest0_eq]
  rw [show (iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) : sProp 𝕄)
    = iprop((∃ d, owns (c : Thread nD τ) (Memref.whole cc0_scratch0) fullShare d) ∗ (∃ d, owns (c : Thread nD τ) (Memref.whole cc0_scratch1) fullShare d)) from by
      simp only [owns_whole]]
  unfold owns
  iintro ⟨⟨⟨⟨%d4, %f4, -, H4⟩, ⟨%d5, %f5, -, H5⟩⟩, Hp⟩, HO, ⟨%f2, -, H2⟩, ⟨%f3, -, H3⟩⟩
  iapply (bodyRuns c (grid0.coords t) (ms0 t) (hstage0_0 ((cfg0.slots t 0).cast nbuf0_0)) (ms1 t) (hstage0_1 ((cfg0.slots t 1).cast nbuf0_1))
    (Memref.whole cc0_scratch0) (Memref.isWhole_whole _) (Memref.whole cc0_scratch1) (Memref.isWhole_whole _) f2 f3 f4 f5 _)
  isplitl [H2]; · iexact H2
  isplitl [H3]; · iexact H3
  isplitl [H4]; · iexact H4
  isplitl [H5]; · iexact H5
  iintro ⟨H2, ⟨%g3, H3⟩, ⟨%g4, H4⟩, ⟨%g5, H5⟩⟩
  isplitl [H4 H5 Hp]
  · isplitl [H4 H5]
    · isplitl [H4]
      · iexists _, g4; isplitr
        swap; · iexact H4
        ipureintro; rfl
      · iexists _, g5; isplitr
        swap; · iexact H5
        ipureintro; rfl
    iexact Hp
  isplitl [HO]; · iexact HO
  isplitl [H2]
  · iexists _; isplitr
    swap; · iexists f2; isplitr
            swap; · iexact H2
            ipureintro; rfl
    ipureintro; trivial
  iexists _; isplitr
  swap; · iexists g3; isplitr
          swap; · iexact H3
          ipureintro; rfl
  ipureintro; trivial

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact triple_restated (point m c t (Y 0) (Y 1)) rfl .rfl fun _ => .rfl

/-- The host line after the grid writes the result only. -/
theorem tail_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb ⊢
  exact Proc.devRef_injective _ hb

/-- THE FRAME: every execution ends, the argument unchanged on every core and every counter at zero. -/
theorem frame_run : θ_run defs (onTc (τ := τ) (main (F := F))) (s₀ m ρ)
    (fun r => (∀ c : Dev nD, r.2.mem ((c : Thread nD τ).loc main_arg0) = m ((c : Thread nD τ).loc main_arg0)) ∧ r.2.sem = fun _ => 0) :=
  RDat.θ_run_frame_around_T cfgs 0 launch0 defs₀ Variants.none (rdat m) {main_v0} m ρ main (body_obligation m)
    (fun c w => by unfold RDat.share; split <;> rfl) (fun _ _ => rfl) (V0 m) [hostOps1] sfx_sub sfx_fresh sfx_keeps tail_writes (hmain m Variants.none)
    (fun _ _ => rfl) (fun _ _ => rfl) _ (fun r h => ⟨fun c => ((h.1 c).2 main_arg0
      (Finset.mem_sdiff.2 ⟨Pipeline.mem_restRefs_of main_arg0 (by decide) (by decide), by decide⟩)).trans (V_main_arg0 m c), h.2⟩)

end Cert.Kernel.Hand
end
-- ==== Proof.Output.lean ====
/- What the kernel program's result is: row `r` of it is what the row's last grid point picks. -/
module

public import proofs.«01_k».proof.Proof.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline

variable {F : FTy → Type} [FloatOps F] [∀ e, Nonempty (Elt F e)]

variable (m : (ℓ : Loc nD τ sig) → Buf (Elt F) ℓ) (ρ : Dev nD → PrngReg)

/-- The last grid point of a row. -/
theorem last_lt (r : Fin 32) : 21 * r.val + 20 < grid0.N := by
  have := r.isLt; rw [show grid0.N = 672 from N_0]; omega

/-- The three coordinates of an entry of the output array. -/
abbrev outEntry (r : Fin 32) (s : Fin 5) : S32x1x5.Idx := Fin.cons r (Fin.cons (0 : Fin 1) (Fin.cons s fun a => a.elim0))
abbrev blkEntry (s : Fin 5) : S1x1x5.Idx := Fin.cons (0 : Fin 1) (Fin.cons (0 : Fin 1) (Fin.cons s fun a => a.elim0))

theorem index1 (t : Fin cfg0.N) (a : Fin 3) : win0_1.index t a = (![t.val / 21, 0, 0] : Fin 3 → ℕ) a := by
  revert a
  rw [Fin.forall_fin_succ, Fin.forall_fin_two]
  refine ⟨?_, rfl, rfl⟩
  show (BitVec.ofNat 32 (grid0.coords t 0).val).toNat = t.val / 21
  rw [BitVec.toNat_ofNat, coords_row]
  have h : t.val < 672 := lt_of_lt_of_eq t.isLt N_0
  omega

theorem xsize1 (t : Fin cfg0.N) (a : Fin 3) : win0_1.xsize (grid0.coords t) a = (![1, 1, 5] : Fin 3 → ℕ) a := by
  revert a
  rw [Fin.forall_fin_succ, Fin.forall_fin_two]
  exact ⟨rfl, rfl, rfl⟩

/-- An entry is in a point's output block when its row is the point's. -/
theorem mem_blk1 (t : Fin cfg0.N) (r : Fin 32) (s : Fin 5) :
    (outEntry r s ∈ (win0_1.blk t).view.set) ↔ r.val = t.val / 21 := by
  refine (win0_1.emb_mem_blk_iff t (outEntry r s)).trans ?_
  have h : t.val < 672 := lt_of_lt_of_eq t.isLt N_0
  have hs := s.isLt
  show (∀ a : Fin 3, _) ↔ _
  rw [Fin.forall_fin_succ, Fin.forall_fin_two]
  rw [index1, xsize1, index1, xsize1, index1, xsize1]
  show ((t.val / 21 * 1 ≤ r.val ∧ r.val < t.val / 21 * 1 + 1) ∧ (0 * 1 ≤ 0 ∧ 0 < 0 * 1 + 1) ∧ (0 * 5 ≤ s.val ∧ s.val < 0 * 5 + 5)) ↔ _
  omega

/-- A write-back of a row's last point leaves the row at what was staged, the other rows unchanged. -/
theorem write_at (c : Dev nD) (t : Fin cfg0.N) (G : Buf (Elt F) (win0_1.arr.view.loc (c : Thread nD τ))) (X : S1x1x5.Idx → BitVec 32) (r : Fin 32) (s : Fin 5) :
    ((win0_1.blk t).view.write (Elt F) G (win0_1.cut (grid0.coords t) X) Finset.univ : S32x1x5.Idx → BitVec 32) (outEntry r s)
      = if r.val = t.val / 21 then X (blkEntry s) else (G : S32x1x5.Idx → BitVec 32) (outEntry r s) := by
  by_cases h : r.val = t.val / 21
  · rw [if_pos h]
    obtain ⟨x, hx⟩ := View.exists_emb_of_mem_set _ ((mem_blk1 t r s).2 h)
    have hx2 : (x 2).val = s.val := by
      have := congrArg (fun k : S32x1x5.Idx => (k 2).val) hx
      refine Eq.trans ?_ this
      refine Eq.trans ?_ (Pipeline.Window.rect_emb_val win0_1 t x 2).symm
      rw [index1 t 2]
      show _ = 0 * 5 + (x 2).val
      omega
    refine (congrArg ((win0_1.blk t).view.write (Elt F) G (win0_1.cut (grid0.coords t) X) Finset.univ) hx.symm).trans ?_
    refine ((win0_1.blk t).view.write_emb_of_mem (Val := Elt F) G _ (Finset.mem_univ x)).trans ?_
    refine congrArg X (a₂ := blkEntry s) ?_
    have x0 : (x 0).val < 1 := lt_of_lt_of_eq (x 0).isLt (xsize1 t 0)
    have x1 : (x 1).val < 1 := lt_of_lt_of_eq (x 1).isLt (xsize1 t 1)
    funext a; apply Fin.ext
    revert a
    show ∀ a : Fin 3, _
    rw [Fin.forall_fin_succ, Fin.forall_fin_two]
    refine ⟨?_, ?_, ?_⟩
    · show (x 0).val = 0; omega
    · show (x 1).val = 0; omega
    · exact hx2
  · rw [if_neg h]
    refine (win0_1.blk t).view.write_of_not_mem (Val := Elt F) G _ _ ?_
    exact fun hm => h ((mem_blk1 t r s).1 hm)

/-- What a row's entries hold once the row's last point has been written back. -/
theorem arr_row (c : Dev nD) : ∀ (t : ℕ) (A : S32x1x5.Idx → BitVec 32), (rdat m c).ArrAt 1 t A → ∀ r : Fin 32, 21 * r.val + 20 < t →
    ∃ W₀, ∀ s : Fin 5, A (outEntry r s)
      = outOf (vAt (inp m c) (21 * r.val + 20) (last_lt r)) (wAt (inp m c) W₀ (21 * r.val + 20) (last_lt r)) (blkEntry s)
  | 0, A, _, r, h => absurd h (Nat.not_lt_zero _)
  | t + 1, A, hA, r, h => by
    unfold RDat.ArrAt at hA
    by_cases ht : t < cfg0.N
    · rw [dif_pos ht] at hA
      by_cases hf : (cfg0.win 1).flush ⟨t, ht⟩ = true
      · rw [if_pos hf] at hA
        obtain ⟨G, X, hG, ⟨Y, -, hX⟩, rfl⟩ := hA
        have hmod : t % 21 = 20 := (flush0_1 ⟨t, ht⟩).1 hf
        obtain ⟨W, hW⟩ := (show t % 21 = 20 → ∃ W₀, X = outOf (vAt (inp m c) t ht) (wAt (inp m c) W₀ t ht) from hX) hmod
        by_cases hr : r.val = t / 21
        · have e : t = 21 * r.val + 20 := by omega
          subst e
          refine ⟨W, fun s => (write_at c ⟨_, ht⟩ G X r s).trans ?_⟩
          rw [if_pos hr, hW]
        · obtain ⟨W', hW'⟩ := arr_row c t G hG r (by omega)
          refine ⟨W', fun s => (write_at c ⟨t, ht⟩ G X r s).trans ?_⟩
          rw [if_neg hr, hW' s]
      · rw [if_neg hf] at hA
        refine arr_row c t A hA r ?_
        have : t % 21 ≠ 20 := fun e => hf ((flush0_1 ⟨t, ht⟩).2 e)
        omega
    · rw [dif_neg ht] at hA
      refine arr_row c t A hA r ?_
      have := last_lt r
      have e : cfg0.N = grid0.N := rfl
      omega

/-- The argument ends as launched. -/
theorem tail_arg (c : Dev nD) (A) : tail m c A main_arg0 = m ((c : Thread nD τ).loc main_arg0) := by
  unfold tail
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The result is the reshape of the output array. -/
theorem tail_res (c : Dev nD) (A) : (tail m c A main_v0 : S32x5.Idx → BitVec 32) = shapeCast S32x5 (A 1 : S32x1x5.Idx → BitVec 32) shapeCasts_S32x1x5_S32x5 := by
  have e : withArrays spec0 c (V0 m c) A (Proc.devRef .tc main_call0_v1) = A 1 := withArrays_arr spec0 launch0.win.arr_inj c (V0 m c) A 1
  unfold tail
  show (StableHlo.reshape main_call0_v1 main_v0 rfl shapeCasts_S32x1x5_S32x5 : HloOp τ sig (Elt F)).result (withArrays spec0 c (V0 m c) A) (Proc.devRef .tc main_v0) = _
  refine (StableHlo.reshape_result main_call0_v1 main_v0 rfl shapeCasts_S32x1x5_S32x5 _ _ _).trans ?_
  rw [e]
  rfl

/-- The input array is the reshape of the argument. -/
theorem inp_eq (c : Dev nD) : inp m c = shapeCast S32x8x125000 (m ((c : Thread nD τ).loc main_arg0) : S32x1000000.Idx → F .f32) shapeCasts_S32x1000000_S32x8x125000 := by
  show (StableHlo.reshape main_arg0 main_call0_v0 rfl shapeCasts_S32x1000000_S32x8x125000 : HloOp τ sig (Elt F)).result (fun b => m (c, b)) (Proc.devRef .tc main_call0_v0) = _
  exact StableHlo.reshape_result main_arg0 main_call0_v0 rfl shapeCasts_S32x1000000_S32x8x125000 _ _ _

/-- An entry of the input array is the argument's, the row cut into eight stretches. -/
theorem inp_apply (c : Dev nD) (r : Fin 32) (b : Fin 8) (k : Fin 125000) (j : Fin 1000000) (hj : j.val = b.val * 125000 + k.val) :
    inp m c (Fin.cons r (Fin.cons b (Fin.cons k fun a => a.elim0)))
      = (m ((c : Thread nD τ).loc main_arg0) : S32x1000000.Idx → F .f32) (Fin.cons r (Fin.cons j fun a => a.elim0)) := by
  rw [inp_eq]
  refine shapeCast_apply _ _ _ _ ?_
  have e3 : (S32x8x125000.rowMajor (Fin.cons r (Fin.cons b (Fin.cons k fun a => a.elim0)))).val = (r.val * 8 + b.val) * 125000 + k.val := Shape.rowMajor_val_three _
  have e2 : (S32x1000000.rowMajor (Fin.cons r (Fin.cons j fun a => a.elim0))).val = r.val * 1000000 + j.val := Shape.rowMajor_val_two _
  exact e2.trans (Eq.trans (by omega) e3.symm)

/-- THE RUN, read: the argument unchanged, every counter at zero, and each entry of the result what its row's last point picks. -/
theorem run_out :
    θ_run defs (onTc (τ := τ) (main (F := F))) (s₀ m ρ) (fun r => (∀ c : Dev nD,
      (∀ q : Fin 32, ∃ W₀, ∀ s : Fin 5, (r.2.mem ((c : Thread nD τ).loc main_v0) : S32x5.Idx → BitVec 32) (Fin.cons q (Fin.cons s fun a => a.elim0))
        = outOf (vAt (inp m c) (21 * q.val + 20) (last_lt q)) (wAt (inp m c) W₀ (21 * q.val + 20) (last_lt q)) (blkEntry s))
      ∧ r.2.mem ((c : Thread nD τ).loc main_arg0) = m ((c : Thread nD τ).loc main_arg0)) ∧ r.2.sem = fun _ => 0) := by
  refine (θ_run defs _ _).mono (fun r h => ⟨fun c => ?_, h.2⟩) (run_left m ρ)
  obtain ⟨A, hA, hb⟩ := h.1 c
  refine ⟨fun q => ?_, (hb main_arg0 (by decide)).trans (tail_arg m c A)⟩
  obtain ⟨W, hW⟩ := arr_row m c cfg0.N (A 1) (hA 1) q (last_lt q)
  refine ⟨W, fun s => ?_⟩
  rw [← hW s, hb main_v0 (by decide), tail_res]
  refine shapeCast_apply _ _ _ _ ?_
  have e3 : (S32x1x5.rowMajor (outEntry q s)).val = (q.val * 1 + 0) * 5 + s.val := Shape.rowMajor_val_three _
  have e2 : (S32x5.rowMajor (Fin.cons q (Fin.cons s fun a => a.elim0))).val = q.val * 5 + s.val := Shape.rowMajor_val_two _
  exact e3.trans (Eq.trans (by omega) e2.symm)

end Cert.KernelIdeal.Hand
end
-- ==== Proof.RefOps.lean ====
/- The reference program as a list of host operations, cut into windows: the positions, each of the twenty rounds of the
   cipher, each of the five key additions, and the end (uniforms, noise, scores and arg-max). -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of one word per entry, and of one float per entry. -/
abbrev Words (F : FTy → Type) : Type := (⟨S32x5x1000000, .i32⟩ : BufTy).Contents (Elt F)
abbrev Floats (F : FTy → Type) : Type := (⟨S32x5x1000000, .f32⟩ : BufTy).Contents (Elt F)

/-- Window Start. -/
abbrev opsStart : List (HloOp τ sig (Elt F)) :=
  [ nullary main_cst (constant S_ .f32 0x0DA24260#32),
    unary main_cst main_v0 (broadcastInDim S32x1000000 ![] bcast_S_S32x1000000 : (⟨S_, .f32⟩ : BufTy).Contents (Elt F) → (⟨S32x1000000, .f32⟩ : BufTy).Contents (Elt F)),
    binary main_arg0 main_v0 main_v1 (addf : (⟨S32x1000000, .f32⟩ : BufTy).Contents (Elt F) → (⟨S32x1000000, .f32⟩ : BufTy).Contents (Elt F) → (⟨S32x1000000, .f32⟩ : BufTy).Contents (Elt F)),
    unary main_v1 main_v2 (Host.log : (⟨S32x1000000, .f32⟩ : BufTy).Contents (Elt F) → (⟨S32x1000000, .f32⟩ : BufTy).Contents (Elt F)),
    nullary main_v3 (iotaInDim S32x5x1000000 32 0),
    nullary main_v4 (iotaInDim S32x5x1000000 32 1),
    nullary main_v5 (iotaInDim S32x5x1000000 32 2),
    nullary main_c (constantI S_ 32 5000000#32),
    unary main_c main_v6 (broadcastInDim S32x5x1000000 ![] bcast_S_S32x5x1000000 : (⟨S_, .i32⟩ : BufTy).Contents (Elt F) → Words F),
    binary main_v3 main_v6 main_v7 (muli : Words F → Words F → Words F),
    nullary main_c_0 (constantI S_ 32 1000000#32),
    unary main_c_0 main_v8 (broadcastInDim S32x5x1000000 ![] bcast_S_S32x5x1000000 : (⟨S_, .i32⟩ : BufTy).Contents (Elt F) → Words F),
    binary main_v4 main_v8 main_v9 (muli : Words F → Words F → Words F),
    binary main_v7 main_v9 main_v10 (addi : Words F → Words F → Words F),
    binary main_v10 main_v5 main_v11 (addi : Words F → Words F → Words F),
    nullary main_c_1 (constantI S_ 32 0#32),
    unary main_c_1 main_v12 (broadcastInDim S32x5x1000000 ![] bcast_S_S32x5x1000000 : (⟨S_, .i32⟩ : BufTy).Contents (Elt F) → Words F),
    nullary main_c_2 (constantI S_ 32 0#32),
    unary main_c_2 main_v13 (broadcastInDim S32x5x1000000 ![] bcast_S_S32x5x1000000 : (⟨S_, .i32⟩ : BufTy).Contents (Elt F) → Words F),
    binary main_v12 main_v13 main_v14 (addi : Words F → Words F → Words F),
    nullary main_c_3 (constantI S_ 32 42#32),
    unary main_c_3 main_v15 (broadcastInDim S32x5x1000000 ![] bcast_S_S32x5x1000000 : (⟨S_, .i32⟩ : BufTy).Contents (Elt F) → Words F),
    binary main_v11 main_v15 main_v16 (addi : Words F → Words F → Words F) ]

/-- Window Round1. -/
abbrev opsRound1 : List (HloOp τ sig (Elt F)) :=
  [ binary main_v14 main_v16 main_v17 (addi : Words F → Words F → Words F),
    nullary main_c_4 (constantI S_ 32 13#32),
    unary main_c_4 main_v18 (broadcastInDim S32x5x1000000 ![] bcast_S_S32x5x1000000 : (⟨S_, .i32⟩ : BufTy).Contents (Elt F) → Words F),
    binary main_v16 main_v18 main_v19 (Host.shli : Words F → Words F → Words F),
    nullary main_c_5 (constantI S_ 32 19#32),
    unary main_c_5 main_v20 (broadcastInDim S32x5x1000000 ![] bcast_S_S32x5x1000000 : (⟨S_, .i32⟩ : BufTy).Contents (Elt F) → Words F),
    binary main_v16 main_v20 main_v21 (Host.shrui : Words F → Words F → Words F),
    binary main_v19 main_v21 main_v22 (ori : Words F → Words F → Words F),
    binary main_v17 main_v22 main_v23 (xori : Words F → Words F → Words F) ]

/-- Window Round2. -/
abbrev opsRound2 : List (HloOp τ sig (Elt F)) :=
  [ binary main_v17 main_v23 main_v24 (addi : Words F → Words F → Words F),
    nullary main_c_6 (constantI S_ 32 15#32),
    unary main_c_6 main_v25 (broadcastInDim S32x5x1000000 ![] bcast_S_S32x5x1000000 : (⟨S_, .i32⟩ : BufTy).Contents (Elt F) → Words F),
    binary main_v23 main_v25 main_v26 (Host.shli : Words F → Words F → Words F),
    nullary main_c_7 (constantI S_ 32 17#32),
    unary main_c_7 main_v27 (broadcastInDim S32x5x1000000 ![] bcast_S_S32x5x1000000 : (⟨S_, .i32⟩ : BufTy).Contents (Elt F) → Words F),
    binary main_v23 main_v27 main_v28 (Host.shrui : Words F → Words F → Words F),
    binary main_v26 main_v28 main_v29 (ori : Words F → Words F → Words F),
    binary main_v24 main_v29 main_v30 (xori : Words F → Words F → Words F) ]

/-- Window Round3. -/
abbrev opsRound3 : List (HloOp τ sig (Elt F)) :=
  [ binary main_v24 main_v30 main_v31 (addi : Words F → Words F → Words F),
    nullary main_c_8 (constantI S_ 32 26#32),
    unary main_c_8 main_v32 (broadcastInDim S32x5x1000000 ![] bcast_S_S32x5x1000000 : (⟨S_, .i32⟩ : BufTy).Contents (Elt F) → Words F),
    binary main_v30 main_v32 main_v33 (Host.shli : Words F → Words F → Words F),
    nullary main_c_9 (constantI S_ 32 6#32),
    unary main_c_9 main_v34 (broadcastInDim S32x5x1000000 ![] bcast_S_S32x5x1000000 : (⟨S_, .i32⟩ : BufTy).Contents (Elt F) → Words F),
    binary main_v30 main_v34 main_v35 (Host.shrui : Words F → Words F → Words F),
    binary main_v33 main_v35 main_v36 (ori : Words F → Words F → Words F),
    binary main_v31 main_v36 main_v37 (xori : Words F → Words F → Words F) ]

/-- Window Round4. -/
abbrev opsRound4 : List (HloOp τ sig (Elt F)) :=
  [ binary main_v31 main_v37 main_v38 (addi : Words F → Words F → Words F),
    nullary main_c_10 (constantI S_ 32 6#32),
    unary main_c_10 main_v39 (broadcastInDim S32x5x1000000 ![] bcast_S_S32x5x1000000 : (⟨S_, .i32⟩ : BufTy).Contents (Elt F) → Words F),
    binary main_v37 main_v39 main_v40 (Host.shli : Words F → Words F → Words F),
    nullary main_c_11 (constantI S_ 32 26#32),
    unary main_c_11 main_v41 (broadcastInDim S32x5x1000000 ![] bcast_S_S32x5x1000000 : (⟨S_, .i32⟩ : BufTy).Contents (Elt F) → Words F),
    binary main_v37 main_v41 main_v42 (Host.shrui : Words F → Words F → Words F),
    binary main_v40 main_v42 main_v43 (ori : Words F → Words F → Words F),
    binary main_v38 main_v43 main_v44 (xori : Words F → Words F → Words F) ]

/-- Window Key1. -/
abbrev opsKey1 : List (HloOp τ sig (Elt F)) :=
  [ nullary main_c_12 (constantI S_ 32 42#32),
    unary main_c_12 main_v45 (broadcastInDim S32x5x1000000 ![] bcast_S_S32x5x1000000 : (⟨S_, .i32⟩ : BufTy).Contents (Elt F) → Words F),
    binary main_v38 main_v45 main_v46 (addi : Words F → Words F → Words F),
    nullary main_c_13 (constantI S_ 32 466689009#32),
    unary main_c_13 main_v47 (broadcastInDim S32x5x1000000 ![] bcast_S_S32x5x1000000 : (⟨S_, .i32⟩ : BufTy).Contents (Elt F) → Words F),
    binary main_v44 main_v47 main_v48 (addi : Words F → Words F → Words F) ]

/-- Window Round5. -/
abbrev opsRound5 : List (HloOp τ sig (Elt F)) :=
  [ binary main_v46 main_v48 main_v49 (addi : Words F → Words F → Words F),
    nullary main_c_14 (constantI S_ 32 17#32),
    unary main_c_14 main_v50 (broadcastInDim S32x5x1000000 ![] bcast_S_S32x5x1000000 : (⟨S_, .i32⟩ : BufTy).Contents (Elt F) → Words F),
    binary main_v48 main_v50 main_v51 (Host.shli : Words F → Words F → Words F),
    nullary main_c_15 (constantI S_ 32 15#32),
    unary main_c_15 main_v52 (broadcastInDim S32x5x1000000 ![] bcast_S_S32x5x1000000 : (⟨S_, .i32⟩ : BufTy).Contents (Elt F) → Words F),
    binary main_v48 main_v52 main_v53 (Host.shrui : Words F → Words F → Words F),
    binary main_v51 main_v53 main_v54 (ori : Words F → Words F → Words F),
    binary main_v49 main_v54 main_v55 (xori : Words F → Words F → Words F) ]

/-- Window Round6. -/
abbrev opsRound6 : List (HloOp τ sig (Elt F)) :=
  [ binary main_v49 main_v55 main_v56 (addi : Words F → Words F → Words F),
    nullary main_c_16 (constantI S_ 32 29#32),
    unary main_c_16 main_v57 (broadcastInDim S32x5x1000000 ![] bcast_S_S32x5x1000000 : (⟨S_, .i32⟩ : BufTy).Contents (Elt F) → Words F),
    binary main_v55 main_v57 main_v58 (Host.shli : Words F → Words F → Words F),
    nullary main_c_17 (constantI S_ 32 3#32),
    unary main_c_17 main_v59 (broadcastInDim S32x5x1000000 ![] bcast_S_S32x5x1000000 : (⟨S_, .i32⟩ : BufTy).Contents (Elt F) → Words F),
    binary main_v55 main_v59 main_v60 (Host.shrui : Words F → Words F → Words F),
    binary main_v58 main_v60 main_v61 (ori : Words F → Words F → Words F),
    binary main_v56 main_v61 main_v62 (xori : Words F → Words F → Words F) ]

/-- Window Round7. -/
abbrev opsRound7 : List (HloOp τ sig (Elt F)) :=
  [ binary main_v56 main_v62 main_v63 (addi : Words F → Words F → Words F),
    nullary main_c_18 (constantI S_ 32 16#32),
    unary main_c_18 main_v64 (broadcastInDim S32x5x1000000 ![] bcast_S_S32x5x1000000 : (⟨S_, .i32⟩ : BufTy).Contents (Elt F) → Words F),
    binary main_v62 main_v64 main_v65 (Host.shli : Words F → Words F → Words F),
    nullary main_c_19 (constantI S_ 32 16#32),
    unary main_c_19 main_v66 (broadcastInDim S32x5x1000000 ![] bcast_S_S32x5x1000000 : (⟨S_, .i32⟩ : BufTy).Contents (Elt F) → Words F),
    binary main_v62 main_v66 main_v67 (Host.shrui : Words F → Words F → Words F),
    binary main_v65 main_v67 main_v68 (ori : Words F → Words F → Words F),
    binary main_v63 main_v68 main_v69 (xori : Words F → Words F → Words F) ]

/-- Window Round8. -/
abbrev opsRound8 : List (HloOp τ sig (Elt F)) :=
  [ binary main_v63 main_v69 main_v70 (addi : Words F → Words F → Words F),
    nullary main_c_20 (constantI S_ 32 24#32),
    unary main_c_20 main_v71 (broadcastInDim S32x5x1000000 ![] bcast_S_S32x5x1000000 : (⟨S_, .i32⟩ : BufTy).Contents (Elt F) → Words F),
    binary main_v69 main_v71 main_v72 (Host.shli : Words F → Words F → Words F),
    nullary main_c_21 (constantI S_ 32 8#32),
    unary main_c_21 main_v73 (broadcastInDim S32x5x1000000 ![] bcast_S_S32x5x1000000 : (⟨S_, .i32⟩ : BufTy).Contents (Elt F) → Words F),
    binary main_v69 main_v73 main_v74 (Host.shrui : Words F → Words F → Words F),
    binary main_v72 main_v74 main_v75 (ori : Words F → Words F → Words F),
    binary main_v70 main_v75 main_v76 (xori : Words F → Words F → Words F) ]

/-- Window Key2. -/
abbrev opsKey2 : List (HloOp τ sig (Elt F)) :=
  [ nullary main_c_22 (constantI S_ 32 466689008#32),
    unary main_c_22 main_v77 (broadcastInDim S32x5x1000000 ![] bcast_S_S32x5x1000000 : (⟨S_, .i32⟩ : BufTy).Contents (Elt F) → Words F),
    binary main_v70 main_v77 main_v78 (addi : Words F → Words F → Words F),
    nullary main_c_23 (constantI S_ 32 2#32),
    unary main_c_23 main_v79 (broadcastInDim S32x5x1000000 ![] bcast_S_S32x5x1000000 : (⟨S_, .i32⟩ : BufTy).Contents (Elt F) → Words F),
    binary main_v76 main_v79 main_v80 (addi : Words F → Words F → Words F) ]

/-- Window Round9. -/
abbrev opsRound9 : List (HloOp τ sig (Elt F)) :=
  [ binary main_v78 main_v80 main_v81 (addi : Words F → Words F → Words F),
    nullary main_c_24 (constantI S_ 32 13#32),
    unary main_c_24 main_v82 (broadcastInDim S32x5x1000000 ![] bcast_S_S32x5x1000000 : (⟨S_, .i32⟩ : BufTy).Contents (Elt F) → Words F),
    binary main_v80 main_v82 main_v83 (Host.shli : Words F → Words F → Words F),
    nullary main_c_25 (constantI S_ 32 19#32),
    unary main_c_25 main_v84 (broadcastInDim S32x5x1000000 ![] bcast_S_S32x5x1000000 : (⟨S_, .i32⟩ : BufTy).Contents (Elt F) → Words F),
    binary main_v80 main_v84 main_v85 (Host.shrui : Words F → Words F → Words F),
    binary main_v83 main_v85 main_v86 (ori : Words F → Words F → Words F),
    binary main_v81 main_v86 main_v87 (xori : Words F → Words F → Words F) ]

/-- Window Round10. -/
abbrev opsRound10 : List (HloOp τ sig (Elt F)) :=
  [ binary main_v81 main_v87 main_v88 (addi : Words F → Words F → Words F),
    nullary main_c_26 (constantI S_ 32 15#32),
    unary main_c_26 main_v89 (broadcastInDim S32x5x1000000 ![] bcast_S_S32x5x1000000 : (⟨S_, .i32⟩ : BufTy).Contents (Elt F) → Words F),
    binary main_v87 main_v89 main_v90 (Host.shli : Words F → Words F → Words F),
    nullary main_c_27 (constantI S_ 32 17#32),
    unary main_c_27 main_v91 (broadcastInDim S32x5x1000000 ![] bcast_S_S32x5x1000000 : (⟨S_, .i32⟩ : BufTy).Contents (Elt F) → Words F),
    binary main_v87 main_v91 main_v92 (Host.shrui : Words F → Words F → Words F),
    binary main_v90 main_v92 main_v93 (ori : Words F → Words F → Words F),
    binary main_v88 main_v93 main_v94 (xori : Words F → Words F → Words F) ]

/-- Window Round11. -/
abbrev opsRound11 : List (HloOp τ sig (Elt F)) :=
  [ binary main_v88 main_v94 main_v95 (addi : Words F → Words F → Words F),
    nullary main_c_28 (constantI S_ 32 26#32),
    unary main_c_28 main_v96 (broadcastInDim S32x5x1000000 ![] bcast_S_S32x5x1000000 : (⟨S_, .i32⟩ : BufTy).Contents (Elt F) → Words F),
    binary main_v94 main_v96 main_v97 (Host.shli : Words F → Words F → Words F),
    nullary main_c_29 (constantI S_ 32 6#32),
    unary main_c_29 main_v98 (broadcastInDim S32x5x1000000 ![] bcast_S_S32x5x1000000 : (⟨S_, .i32⟩ : BufTy).Contents (Elt F) → Words F),
    binary main_v94 main_v98 main_v99 (Host.shrui : Words F → Words F → Words F),
    binary main_v97 main_v99 main_v100 (ori : Words F → Words F → Words F),
    binary main_v95 main_v100 main_v101 (xori : Words F → Words F → Words F) ]

/-- Window Round12. -/
abbrev opsRound12 : List (HloOp τ sig (Elt F)) :=
  [ binary main_v95 main_v101 main_v102 (addi : Words F → Words F → Words F),
    nullary main_c_30 (constantI S_ 32 6#32),
    unary main_c_30 main_v103 (broadcastInDim S32x5x1000000 ![] bcast_S_S32x5x1000000 : (⟨S_, .i32⟩ : BufTy).Contents (Elt F) → Words F),
    binary main_v101 main_v103 main_v104 (Host.shli : Words F → Words F → Words F),
    nullary main_c_31 (constantI S_ 32 26#32),
    unary main_c_31 main_v105 (broadcastInDim S32x5x1000000 ![] bcast_S_S32x5x1000000 : (⟨S_, .i32⟩ : BufTy).Contents (Elt F) → Words F),
    binary main_v101 main_v105 main_v106 (Host.shrui : Words F → Words F → Words F),
    binary main_v104 main_v106 main_v107 (ori : Words F → Words F → Words F),
    binary main_v102 main_v107 main_v108 (xori : Words F → Words F → Words F) ]

/-- Window Key3. -/
abbrev opsKey3 : List (HloOp τ sig (Elt F)) :=
  [ nullary main_c_32 (constantI S_ 32 0#32),
    unary main_c_32 main_v109 (broadcastInDim S32x5x1000000 ![] bcast_S_S32x5x1000000 : (⟨S_, .i32⟩ : BufTy).Contents (Elt F) → Words F),
    binary main_v102 main_v109 main_v110 (addi : Words F → Words F → Words F),
    nullary main_c_33 (constantI S_ 32 45#32),
    unary main_c_33 main_v111 (broadcastInDim S32x5x1000000 ![] bcast_S_S32x5x1000000 : (⟨S_, .i32⟩ : BufTy).Contents (Elt F) → Words F),
    binary main_v108 main_v111 main_v112 (addi : Words F → Words F → Words F) ]

/-- Window Round13. -/
abbrev opsRound13 : List (HloOp τ sig (Elt F)) :=
  [ binary main_v110 main_v112 main_v113 (addi : Words F → Words F → Words F),
    nullary main_c_34 (constantI S_ 32 17#32),
    unary main_c_34 main_v114 (broadcastInDim S32x5x1000000 ![] bcast_S_S32x5x1000000 : (⟨S_, .i32⟩ : BufTy).Contents (Elt F) → Words F),
    binary main_v112 main_v114 main_v115 (Host.shli : Words F → Words F → Words F),
    nullary main_c_35 (constantI S_ 32 15#32),
    unary main_c_35 main_v116 (broadcastInDim S32x5x1000000 ![] bcast_S_S32x5x1000000 : (⟨S_, .i32⟩ : BufTy).Contents (Elt F) → Words F),
    binary main_v112 main_v116 main_v117 (Host.shrui : Words F → Words F → Words F),
    binary main_v115 main_v117 main_v118 (ori : Words F → Words F → Words F),
    binary main_v113 main_v118 main_v119 (xori : Words F → Words F → Words F) ]

/-- Window Round14. -/
abbrev opsRound14 : List (HloOp τ sig (Elt F)) :=
  [ binary main_v113 main_v119 main_v120 (addi : Words F → Words F → Words F),
    nullary main_c_36 (constantI S_ 32 29#32),
    unary main_c_36 main_v121 (broadcastInDim S32x5x1000000 ![] bcast_S_S32x5x1000000 : (⟨S_, .i32⟩ : BufTy).Contents (Elt F) → Words F),
    binary main_v119 main_v121 main_v122 (Host.shli : Words F → Words F → Words F),
    nullary main_c_37 (constantI S_ 32 3#32),
    unary main_c_37 main_v123 (broadcastInDim S32x5x1000000 ![] bcast_S_S32x5x1000000 : (⟨S_, .i32⟩ : BufTy).Contents (Elt F) → Words F),
    binary main_v119 main_v123 main_v124 (Host.shrui : Words F → Words F → Words F),
    binary main_v122 main_v124 main_v125 (ori : Words F → Words F → Words F),
    binary main_v120 main_v125 main_v126 (xori : Words F → Words F → Words F) ]

/-- Window Round15. -/
abbrev opsRound15 : List (HloOp τ sig (Elt F)) :=
  [ binary main_v120 main_v126 main_v127 (addi : Words F → Words F → Words F),
    nullary main_c_38 (constantI S_ 32 16#32),
    unary main_c_38 main_v128 (broadcastInDim S32x5x1000000 ![] bcast_S_S32x5x1000000 : (⟨S_, .i32⟩ : BufTy).Contents (Elt F) → Words F),
    binary main_v126 main_v128 main_v129 (Host.shli : Words F → Words F → Words F),
    nullary main_c_39 (constantI S_ 32 16#32),
    unary main_c_39 main_v130 (broadcastInDim S32x5x1000000 ![] bcast_S_S32x5x1000000 : (⟨S_, .i32⟩ : BufTy).Contents (Elt F) → Words F),
    binary main_v126 main_v130 main_v131 (Host.shrui : Words F → Words F → Words F),
    binary main_v129 main_v131 main_v132 (ori : Words F → Words F → Words F),
    binary main_v127 main_v132 main_v133 (xori : Words F → Words F → Words F) ]

/-- Window Round16. -/
abbrev opsRound16 : List (HloOp τ sig (Elt F)) :=
  [ binary main_v127 main_v133 main_v134 (addi : Words F → Words F → Words F),
    nullary main_c_40 (constantI S_ 32 24#32),
    unary main_c_40 main_v135 (broadcastInDim S32x5x1000000 ![] bcast_S_S32x5x1000000 : (⟨S_, .i32⟩ : BufTy).Contents (Elt F) → Words F),
    binary main_v133 main_v135 main_v136 (Host.shli : Words F → Words F → Words F),
    nullary main_c_41 (constantI S_ 32 8#32),
    unary main_c_41 main_v137 (broadcastInDim S32x5x1000000 ![] bcast_S_S32x5x1000000 : (⟨S_, .i32⟩ : BufTy).Contents (Elt F) → Words F),
    binary main_v133 main_v137 main_v138 (Host.shrui : Words F → Words F → Words F),
    binary main_v136 main_v138 main_v139 (ori : Words F → Words F → Words F),
    binary main_v134 main_v139 main_v140 (xori : Words F → Words F → Words F) ]

/-- Window Key4. -/
abbrev opsKey4 : List (HloOp τ sig (Elt F)) :=
  [ nullary main_c_42 (constantI S_ 32 42#32),
    unary main_c_42 main_v141 (broadcastInDim S32x5x1000000 ![] bcast_S_S32x5x1000000 : (⟨S_, .i32⟩ : BufTy).Contents (Elt F) → Words F),
    binary main_v134 main_v141 main_v142 (addi : Words F → Words F → Words F),
    nullary main_c_43 (constantI S_ 32 466689012#32),
    unary main_c_43 main_v143 (broadcastInDim S32x5x1000000 ![] bcast_S_S32x5x1000000 : (⟨S_, .i32⟩ : BufTy).Contents (Elt F) → Words F),
    binary main_v140 main_v143 main_v144 (addi : Words F → Words F → Words F) ]

/-- Window Round17. -/
abbrev opsRound17 : List (HloOp τ sig (Elt F)) :=
  [ binary main_v142 main_v144 main_v145 (addi : Words F → Words F → Words F),
    nullary main_c_44 (constantI S_ 32 13#32),
    unary main_c_44 main_v146 (broadcastInDim S32x5x1000000 ![] bcast_S_S32x5x1000000 : (⟨S_, .i32⟩ : BufTy).Contents (Elt F) → Words F),
    binary main_v144 main_v146 main_v147 (Host.shli : Words F → Words F → Words F),
    nullary main_c_45 (constantI S_ 32 19#32),
    unary main_c_45 main_v148 (broadcastInDim S32x5x1000000 ![] bcast_S_S32x5x1000000 : (⟨S_, .i32⟩ : BufTy).Contents (Elt F) → Words F),
    binary main_v144 main_v148 main_v149 (Host.shrui : Words F → Words F → Words F),
    binary main_v147 main_v149 main_v150 (ori : Words F → Words F → Words F),
    binary main_v145 main_v150 main_v151 (xori : Words F → Words F → Words F) ]

/-- Window Round18. -/
abbrev opsRound18 : List (HloOp τ sig (Elt F)) :=
  [ binary main_v145 main_v151 main_v152 (addi : Words F → Words F → Words F),
    nullary main_c_46 (constantI S_ 32 15#32),
    unary main_c_46 main_v153 (broadcastInDim S32x5x1000000 ![] bcast_S_S32x5x1000000 : (⟨S_, .i32⟩ : BufTy).Contents (Elt F) → Words F),
    binary main_v151 main_v153 main_v154 (Host.shli : Words F → Words F → Words F),
    nullary main_c_47 (constantI S_ 32 17#32),
    unary main_c_47 main_v155 (broadcastInDim S32x5x1000000 ![] bcast_S_S32x5x1000000 : (⟨S_, .i32⟩ : BufTy).Contents (Elt F) → Words F),
    binary main_v151 main_v155 main_v156 (Host.shrui : Words F → Words F → Words F),
    binary main_v154 main_v156 main_v157 (ori : Words F → Words F → Words F),
    binary main_v152 main_v157 main_v158 (xori : Words F → Words F → Words F) ]

/-- Window Round19. -/
abbrev opsRound19 : List (HloOp τ sig (Elt F)) :=
  [ binary main_v152 main_v158 main_v159 (addi : Words F → Words F → Words F),
    nullary main_c_48 (constantI S_ 32 26#32),
    unary main_c_48 main_v160 (broadcastInDim S32x5x1000000 ![] bcast_S_S32x5x1000000 : (⟨S_, .i32⟩ : BufTy).Contents (Elt F) → Words F),
    binary main_v158 main_v160 main_v161 (Host.shli : Words F → Words F → Words F),
    nullary main_c_49 (constantI S_ 32 6#32),
    unary main_c_49 main_v162 (broadcastInDim S32x5x1000000 ![] bcast_S_S32x5x1000000 : (⟨S_, .i32⟩ : BufTy).Contents (Elt F) → Words F),
    binary main_v158 main_v162 main_v163 (Host.shrui : Words F → Words F → Words F),
    binary main_v161 main_v163 main_v164 (ori : Words F → Words F → Words F),
    binary main_v159 main_v164 main_v165 (xori : Words F → Words F → Words F) ]

/-- Window Round20. -/
abbrev opsRound20 : List (HloOp τ sig (Elt F)) :=
  [ binary main_v159 main_v165 main_v166 (addi : Words F → Words F → Words F),
    nullary main_c_50 (constantI S_ 32 6#32),
    unary main_c_50 main_v167 (broadcastInDim S32x5x1000000 ![] bcast_S_S32x5x1000000 : (⟨S_, .i32⟩ : BufTy).Contents (Elt F) → Words F),
    binary main_v165 main_v167 main_v168 (Host.shli : Words F → Words F → Words F),
    nullary main_c_51 (constantI S_ 32 26#32),
    unary main_c_51 main_v169 (broadcastInDim S32x5x1000000 ![] bcast_S_S32x5x1000000 : (⟨S_, .i32⟩ : BufTy).Contents (Elt F) → Words F),
    binary main_v165 main_v169 main_v170 (Host.shrui : Words F → Words F → Words F),
    binary main_v168 main_v170 main_v171 (ori : Words F → Words F → Words F),
    binary main_v166 main_v171 main_v172 (xori : Words F → Words F → Words F) ]

/-- Window Key5. -/
abbrev opsKey5 : List (HloOp τ sig (Elt F)) :=
  [ nullary main_c_52 (constantI S_ 32 466689008#32),
    unary main_c_52 main_v173 (broadcastInDim S32x5x1000000 ![] bcast_S_S32x5x1000000 : (⟨S_, .i32⟩ : BufTy).Contents (Elt F) → Words F),
    binary main_v166 main_v173 main_v174 (addi : Words F → Words F → Words F),
    nullary main_c_53 (constantI S_ 32 5#32),
    unary main_c_53 main_v175 (broadcastInDim S32x5x1000000 ![] bcast_S_S32x5x1000000 : (⟨S_, .i32⟩ : BufTy).Contents (Elt F) → Words F),
    binary main_v172 main_v175 main_v176 (addi : Words F → Words F → Words F) ]

/-- Window End. -/
abbrev opsEnd : List (HloOp τ sig (Elt F)) :=
  [ binary main_v174 main_v176 main_v177 (xori : Words F → Words F → Words F),
    nullary main_c_54 (constantI S_ 32 9#32),
    unary main_c_54 main_v178 (broadcastInDim S32x5x1000000 ![] bcast_S_S32x5x1000000 : (⟨S_, .i32⟩ : BufTy).Contents (Elt F) → Words F),
    binary main_v177 main_v178 main_v179 (Host.shrui : Words F → Words F → Words F),
    nullary main_c_55 (constantI S_ 32 1065353216#32),
    unary main_c_55 main_v180 (broadcastInDim S32x5x1000000 ![] bcast_S_S32x5x1000000 : (⟨S_, .i32⟩ : BufTy).Contents (Elt F) → Words F),
    binary main_v179 main_v180 main_v181 (ori : Words F → Words F → Words F),
    unary main_v181 main_v182 (bitcastToFloat (F := F) .f32 : Words F → Floats F),
    nullary main_cst_56 (constant S_ .f32 0x3F800000#32),
    unary main_cst_56 main_v183 (broadcastInDim S32x5x1000000 ![] bcast_S_S32x5x1000000 : (⟨S_, .f32⟩ : BufTy).Contents (Elt F) → Floats F),
    binary main_v182 main_v183 main_v184 (subf : Floats F → Floats F → Floats F),
    nullary main_cst_57 (constant S_ .f32 0x3F800000#32),
    unary main_cst_57 main_v185 (broadcastInDim S32x5x1000000 ![] bcast_S_S32x5x1000000 : (⟨S_, .f32⟩ : BufTy).Contents (Elt F) → Floats F),
    binary main_v184 main_v185 main_v186 (mulf : Floats F → Floats F → Floats F),
    nullary main_cst_58 (constant S_ .f32 0x00800000#32),
    unary main_cst_58 main_v187 (broadcastInDim S32x5x1000000 ![] bcast_S_S32x5x1000000 : (⟨S_, .f32⟩ : BufTy).Contents (Elt F) → Floats F),
    binary main_v186 main_v187 main_v188 (addf : Floats F → Floats F → Floats F),
    nullary main_cst_59 (constant S_ .f32 0x00800000#32),
    unary main_cst_59 main_v189 (broadcastInDim S32x5x1000000 ![] bcast_S_S32x5x1000000 : (⟨S_, .f32⟩ : BufTy).Contents (Elt F) → Floats F),
    binary main_v189 main_v188 main_v190 (maximumf : Floats F → Floats F → Floats F),
    unary main_v190 main_v191 (Host.log : Floats F → Floats F),
    unary main_v191 main_v192 (Host.negf : Floats F → Floats F),
    unary main_v192 main_v193 (Host.log : Floats F → Floats F),
    unary main_v193 main_v194 (Host.negf : Floats F → Floats F),
    unary main_v2 main_v195 (broadcastInDim S32x1x1000000 ![0, 2] bcast_S32x1000000_S32x1x1000000_0_2 : (⟨S32x1000000, .f32⟩ : BufTy).Contents (Elt F) → (⟨S32x1x1000000, .f32⟩ : BufTy).Contents (Elt F)),
    unary main_v195 main_v196 (broadcastInDim S32x5x1000000 ![0, 1, 2] bcast_S32x1x1000000_S32x5x1000000_0_1_2 : (⟨S32x1x1000000, .f32⟩ : BufTy).Contents (Elt F) → Floats F),
    binary main_v194 main_v196 main_v197 (addf : Floats F → Floats F → Floats F),
    nullary main_call0_v0 (iotaInDim S32x5x1000000 32 2),
    nullary main_call0_cst (constant S_ .f32 0xFF800000#32),
    nullary main_call0_c (constantI S_ 32 0#32),
    quaternary main_v197 main_call0_v0 main_call0_cst main_call0_c main_call0_v1_0 (fun x y u v j => (Host.argReduce reducer_argmax_f32_i32 x y u v reducesTo_S32x5x1000000_S32x5_d2 h_S_ j).1),
    quaternary main_v197 main_call0_v0 main_call0_cst main_call0_c main_v198 (fun x y u v j => (Host.argReduce reducer_argmax_f32_i32 x y u v reducesTo_S32x5x1000000_S32x5_d2 h_S_ j).2) ]

/-- All operations of the reference, in order. -/
abbrev ops : List (HloOp τ sig (Elt F)) :=
  opsStart ++ (opsRound1 ++ (opsRound2 ++ (opsRound3 ++ (opsRound4 ++ (opsKey1 ++ (opsRound5 ++ (opsRound6 ++ (opsRound7 ++ (opsRound8 ++ (opsKey2 ++ (opsRound9 ++ (opsRound10 ++ (opsRound11 ++ (opsRound12 ++ (opsKey3 ++ (opsRound13 ++ (opsRound14 ++ (opsRound15 ++ (opsRound16 ++ (opsKey4 ++ (opsRound17 ++ (opsRound18 ++ (opsRound19 ++ (opsRound20 ++ (opsKey5 ++ (opsEnd))))))))))))))))))))))))))

set_option maxRecDepth 8192 in
theorem part0_eq (c : Dev nD) : main_part0 (F := F) c = seq ((ops.drop 0).take 60) := rfl
set_option maxRecDepth 8192 in
theorem part1_eq (c : Dev nD) : main_part1 (F := F) c = seq ((ops.drop 60).take 60) := rfl
set_option maxRecDepth 8192 in
theorem part2_eq (c : Dev nD) : main_part2 (F := F) c = seq ((ops.drop 120).take 60) := rfl
set_option maxRecDepth 8192 in
theorem part3_eq (c : Dev nD) : main_part3 (F := F) c = seq ((ops.drop 180).take 60) := rfl
set_option maxRecDepth 8192 in
theorem part4_eq (c : Dev nD) : main_part4 (F := F) c = seq ((ops.drop 240).take 25) := rfl

set_option maxRecDepth 8192 in
theorem ops_cut : (ops : List (HloOp τ sig (Elt F))) = (ops.drop 0).take 60 ++ ((ops.drop 60).take 60 ++ ((ops.drop 120).take 60 ++ ((ops.drop 180).take 60 ++ ((ops.drop 240).take 25)))) := rfl
set_option maxRecDepth 8192 in
theorem main_eq (c : Dev nD) : main (F := F) c = seq ops := by
  rw [ops_cut]
  simp only [seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide
theorem subStart : (opsStart : List (HloOp τ sig (Elt F))).Forall fun op => op.bufs ⊆ tcRefs τ sig :=
  ⟨nullary_bufs_sub .., unary_bufs_sub .., binary_bufs_sub .., unary_bufs_sub .., nullary_bufs_sub .., nullary_bufs_sub .., nullary_bufs_sub .., nullary_bufs_sub .., unary_bufs_sub .., binary_bufs_sub .., nullary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub ..⟩
theorem freshStart : (opsStart : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem subRound1 : (opsRound1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound1 : (opsRound1 : List (HloOp τ sig (Elt F))).Forall fun op => op.fresh = ∅ :=
  ⟨rfl, rfl, rfl, rfl, rfl, rfl, rfl, rfl, rfl⟩
theorem subRound2 : (opsRound2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound2 : (opsRound2 : List (HloOp τ sig (Elt F))).Forall fun op => op.fresh = ∅ :=
  ⟨rfl, rfl, rfl, rfl, rfl, rfl, rfl, rfl, rfl⟩
theorem subRound3 : (opsRound3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound3 : (opsRound3 : List (HloOp τ sig (Elt F))).Forall fun op => op.fresh = ∅ :=
  ⟨rfl, rfl, rfl, rfl, rfl, rfl, rfl, rfl, rfl⟩
theorem subRound4 : (opsRound4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound4 : (opsRound4 : List (HloOp τ sig (Elt F))).Forall fun op => op.fresh = ∅ :=
  ⟨rfl, rfl, rfl, rfl, rfl, rfl, rfl, rfl, rfl⟩
theorem subKey1 : (opsKey1 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem freshKey1 : (opsKey1 : List (HloOp τ sig (Elt F))).Forall fun op => op.fresh = ∅ :=
  ⟨rfl, rfl, rfl, rfl, rfl, rfl⟩
theorem subRound5 : (opsRound5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound5 : (opsRound5 : List (HloOp τ sig (Elt F))).Forall fun op => op.fresh = ∅ :=
  ⟨rfl, rfl, rfl, rfl, rfl, rfl, rfl, rfl, rfl⟩
theorem subRound6 : (opsRound6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound6 : (opsRound6 : List (HloOp τ sig (Elt F))).Forall fun op => op.fresh = ∅ :=
  ⟨rfl, rfl, rfl, rfl, rfl, rfl, rfl, rfl, rfl⟩
theorem subRound7 : (opsRound7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound7 : (opsRound7 : List (HloOp τ sig (Elt F))).Forall fun op => op.fresh = ∅ :=
  ⟨rfl, rfl, rfl, rfl, rfl, rfl, rfl, rfl, rfl⟩
theorem subRound8 : (opsRound8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound8 : (opsRound8 : List (HloOp τ sig (Elt F))).Forall fun op => op.fresh = ∅ :=
  ⟨rfl, rfl, rfl, rfl, rfl, rfl, rfl, rfl, rfl⟩
theorem subKey2 : (opsKey2 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem freshKey2 : (opsKey2 : List (HloOp τ sig (Elt F))).Forall fun op => op.fresh = ∅ :=
  ⟨rfl, rfl, rfl, rfl, rfl, rfl⟩
theorem subRound9 : (opsRound9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound9 : (opsRound9 : List (HloOp τ sig (Elt F))).Forall fun op => op.fresh = ∅ :=
  ⟨rfl, rfl, rfl, rfl, rfl, rfl, rfl, rfl, rfl⟩
theorem subRound10 : (opsRound10 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound10 : (opsRound10 : List (HloOp τ sig (Elt F))).Forall fun op => op.fresh = ∅ :=
  ⟨rfl, rfl, rfl, rfl, rfl, rfl, rfl, rfl, rfl⟩
theorem subRound11 : (opsRound11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound11 : (opsRound11 : List (HloOp τ sig (Elt F))).Forall fun op => op.fresh = ∅ :=
  ⟨rfl, rfl, rfl, rfl, rfl, rfl, rfl, rfl, rfl⟩
theorem subRound12 : (opsRound12 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound12 : (opsRound12 : List (HloOp τ sig (Elt F))).Forall fun op => op.fresh = ∅ :=
  ⟨rfl, rfl, rfl, rfl, rfl, rfl, rfl, rfl, rfl⟩
theorem subKey3 : (opsKey3 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem freshKey3 : (opsKey3 : List (HloOp τ sig (Elt F))).Forall fun op => op.fresh = ∅ :=
  ⟨rfl, rfl, rfl, rfl, rfl, rfl⟩
theorem subRound13 : (opsRound13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound13 : (opsRound13 : List (HloOp τ sig (Elt F))).Forall fun op => op.fresh = ∅ :=
  ⟨rfl, rfl, rfl, rfl, rfl, rfl, rfl, rfl, rfl⟩
theorem subRound14 : (opsRound14 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound14 : (opsRound14 : List (HloOp τ sig (Elt F))).Forall fun op => op.fresh = ∅ :=
  ⟨rfl, rfl, rfl, rfl, rfl, rfl, rfl, rfl, rfl⟩
theorem subRound15 : (opsRound15 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound15 : (opsRound15 : List (HloOp τ sig (Elt F))).Forall fun op => op.fresh = ∅ :=
  ⟨rfl, rfl, rfl, rfl, rfl, rfl, rfl, rfl, rfl⟩
theorem subRound16 : (opsRound16 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound16 : (opsRound16 : List (HloOp τ sig (Elt F))).Forall fun op => op.fresh = ∅ :=
  ⟨rfl, rfl, rfl, rfl, rfl, rfl, rfl, rfl, rfl⟩
theorem subKey4 : (opsKey4 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem freshKey4 : (opsKey4 : List (HloOp τ sig (Elt F))).Forall fun op => op.fresh = ∅ :=
  ⟨rfl, rfl, rfl, rfl, rfl, rfl⟩
theorem subRound17 : (opsRound17 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound17 : (opsRound17 : List (HloOp τ sig (Elt F))).Forall fun op => op.fresh = ∅ :=
  ⟨rfl, rfl, rfl, rfl, rfl, rfl, rfl, rfl, rfl⟩
theorem subRound18 : (opsRound18 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound18 : (opsRound18 : List (HloOp τ sig (Elt F))).Forall fun op => op.fresh = ∅ :=
  ⟨rfl, rfl, rfl, rfl, rfl, rfl, rfl, rfl, rfl⟩
theorem subRound19 : (opsRound19 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound19 : (opsRound19 : List (HloOp τ sig (Elt F))).Forall fun op => op.fresh = ∅ :=
  ⟨rfl, rfl, rfl, rfl, rfl, rfl, rfl, rfl, rfl⟩
theorem subRound20 : (opsRound20 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem freshRound20 : (opsRound20 : List (HloOp τ sig (Elt F))).Forall fun op => op.fresh = ∅ :=
  ⟨rfl, rfl, rfl, rfl, rfl, rfl, rfl, rfl, rfl⟩
theorem subKey5 : (opsKey5 : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem freshKey5 : (opsKey5 : List (HloOp τ sig (Elt F))).Forall fun op => op.fresh = ∅ :=
  ⟨rfl, rfl, rfl, rfl, rfl, rfl⟩
theorem subEnd : (opsEnd : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub ..⟩
theorem freshEnd : (opsEnd : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h
    exacts [List.forall_iff_forall_mem.mp subStart op h, List.forall_iff_forall_mem.mp subRound1 op h, List.forall_iff_forall_mem.mp subRound2 op h, List.forall_iff_forall_mem.mp subRound3 op h, List.forall_iff_forall_mem.mp subRound4 op h, List.forall_iff_forall_mem.mp subKey1 op h, List.forall_iff_forall_mem.mp subRound5 op h, List.forall_iff_forall_mem.mp subRound6 op h, List.forall_iff_forall_mem.mp subRound7 op h, List.forall_iff_forall_mem.mp subRound8 op h, List.forall_iff_forall_mem.mp subKey2 op h, List.forall_iff_forall_mem.mp subRound9 op h, List.forall_iff_forall_mem.mp subRound10 op h, List.forall_iff_forall_mem.mp subRound11 op h, List.forall_iff_forall_mem.mp subRound12 op h, List.forall_iff_forall_mem.mp subKey3 op h, List.forall_iff_forall_mem.mp subRound13 op h, List.forall_iff_forall_mem.mp subRound14 op h, List.forall_iff_forall_mem.mp subRound15 op h, List.forall_iff_forall_mem.mp subRound16 op h, List.forall_iff_forall_mem.mp subKey4 op h, List.forall_iff_forall_mem.mp subRound17 op h, List.forall_iff_forall_mem.mp subRound18 op h, List.forall_iff_forall_mem.mp subRound19 op h, List.forall_iff_forall_mem.mp subRound20 op h, List.forall_iff_forall_mem.mp subKey5 op h, List.forall_iff_forall_mem.mp subEnd op h]
theorem ops_fresh : (ops : List (HloOp τ sig (Elt F))).Forall fun op => op.fresh = ∅ :=
  List.forall_iff_forall_mem.mpr fun op h => by
    simp only [ops, List.mem_append] at h
    rcases h with h | h | h | h | h | h | h | h | h | h | h | h | h | h | h | h | h | h | h | h | h | h | h | h | h | h | h
    exacts [List.forall_iff_forall_mem.mp freshStart op h, List.forall_iff_forall_mem.mp freshRound1 op h, List.forall_iff_forall_mem.mp freshRound2 op h, List.forall_iff_forall_mem.mp freshRound3 op h, List.forall_iff_forall_mem.mp freshRound4 op h, List.forall_iff_forall_mem.mp freshKey1 op h, List.forall_iff_forall_mem.mp freshRound5 op h, List.forall_iff_forall_mem.mp freshRound6 op h, List.forall_iff_forall_mem.mp freshRound7 op h, List.forall_iff_forall_mem.mp freshRound8 op h, List.forall_iff_forall_mem.mp freshKey2 op h, List.forall_iff_forall_mem.mp freshRound9 op h, List.forall_iff_forall_mem.mp freshRound10 op h, List.forall_iff_forall_mem.mp freshRound11 op h, List.forall_iff_forall_mem.mp freshRound12 op h, List.forall_iff_forall_mem.mp freshKey3 op h, List.forall_iff_forall_mem.mp freshRound13 op h, List.forall_iff_forall_mem.mp freshRound14 op h, List.forall_iff_forall_mem.mp freshRound15 op h, List.forall_iff_forall_mem.mp freshRound16 op h, List.forall_iff_forall_mem.mp freshKey4 op h, List.forall_iff_forall_mem.mp freshRound17 op h, List.forall_iff_forall_mem.mp freshRound18 op h, List.forall_iff_forall_mem.mp freshRound19 op h, List.forall_iff_forall_mem.mp freshRound20 op h, List.forall_iff_forall_mem.mp freshKey5 op h, List.forall_iff_forall_mem.mp freshEnd op h]

end Cert.ReferenceIdeal.Hand
end
-- ==== Proof.RefRun.lean ====
/- What each window of the reference leaves in the buffers the next ones read, and the run of the whole reference. -/
module

public import proofs.«01_k».proof.Proof.RefOps

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One word, or one float, at every entry. -/
abbrev allW (F : FTy → Type) [FloatOps F] (k : BitVec 32) : Words F := broadcastInDim S32x5x1000000 ![] bcast_S_S32x5x1000000 (constantI S_ 32 k : (⟨S_, .i32⟩ : BufTy).Contents (Elt F))
abbrev allF (F : FTy → Type) [FloatOps F] (k : BitVec 32) : Floats F := broadcastInDim S32x5x1000000 ![] bcast_S_S32x5x1000000 (constant S_ .f32 k : (⟨S_, .f32⟩ : BufTy).Contents (Elt F))

/-- A round's second word: the sum, exclusive-or the old second word rotated by `a` (and `b = 32 - a`). -/
def mixR (a b : BitVec 32) (p q : Words F) : Words F :=
  xori (addi p q) (ori (Host.shli q (allW F a)) (Host.shrui q (allW F b)))

/-- The position of every entry in the row-major order of the entries. -/
def positions (F : FTy → Type) [FloatOps F] : Words F :=
  addi (addi (muli (iotaInDim S32x5x1000000 32 0) (allW F 5000000#32)) (muli (iotaInDim S32x5x1000000 32 1) (allW F 1000000#32))) (iotaInDim S32x5x1000000 32 2)

/-- The uniforms of the cipher's words. -/
def uniformsR (p q : Words F) : Floats F :=
  maximumf (allF F 0x00800000#32) (addf (mulf (subf (bitcastToFloat (F := F) .f32 (ori (Host.shrui (xori p q) (allW F 9#32)) (allW F 1065353216#32)) : Floats F)
    (allF F 0x3F800000#32)) (allF F 0x3F800000#32)) (allF F 0x00800000#32))

/-- The logarithm of the weights, shifted by 1e-30. -/
def logits (x : (⟨S32x1000000, .f32⟩ : BufTy).Contents (Elt F)) : (⟨S32x1000000, .f32⟩ : BufTy).Contents (Elt F) :=
  Host.log (addf x (broadcastInDim S32x1000000 ![] bcast_S_S32x1000000 (constant S_ .f32 0x0DA24260#32 : (⟨S_, .f32⟩ : BufTy).Contents (Elt F))))

/-- The scores: the noise of the uniforms plus the logits. -/
def scores (u : Floats F) (l : (⟨S32x1000000, .f32⟩ : BufTy).Contents (Elt F)) : Floats F :=
  addf (Host.negf (Host.log (Host.negf (Host.log u)))) (broadcastInDim S32x5x1000000 ![0, 1, 2] bcast_S32x1x1000000_S32x5x1000000_0_1_2
    (broadcastInDim S32x1x1000000 ![0, 2] bcast_S32x1000000_S32x1x1000000_0_2 l : (⟨S32x1x1000000, .f32⟩ : BufTy).Contents (Elt F)))

/-- The position of the largest score of every row and sample. -/
def best (v : Floats F) : (⟨S32x5, .i32⟩ : BufTy).Contents (Elt F) :=
  fun j => (Host.argReduce reducer_argmax_f32_i32 v (iotaInDim S32x5x1000000 32 2 : Words F) (constant S_ .f32 0xFF800000#32 : (⟨S_, .f32⟩ : BufTy).Contents (Elt F))
    (constantI S_ 32 0#32 : (⟨S_, .i32⟩ : BufTy).Contents (Elt F)) reducesTo_S32x5x1000000_S32x5_d2 h_S_ j).2

variable (V : Valuation τ sig (Elt F))

theorem keepArgStart : after opsStart V (no_index (Proc.devRef .tc main_arg0)) = V (Proc.devRef .tc main_arg0) := by
  simp only [opsStart]
  after_results_simp
theorem logStart : after opsStart V (no_index (Proc.devRef .tc main_v2)) = logits (V (Proc.devRef .tc main_arg0)) := by
  simp only [opsStart]
  after_results_simp
  all_goals rfl
theorem p0 : after opsStart V (no_index (Proc.devRef .tc main_v14)) = (addi (allW F 0#32) (allW F 0#32) : Words F) := by
  simp only [opsStart]
  after_results_simp
  all_goals rfl
theorem q0 : after opsStart V (no_index (Proc.devRef .tc main_v16)) = (addi (positions F) (allW F 42#32) : Words F) := by
  simp only [opsStart]
  after_results_simp
  all_goals rfl
theorem keepArgRound1 : after opsRound1 V (no_index (Proc.devRef .tc main_arg0)) = V (Proc.devRef .tc main_arg0) := by
  simp only [opsRound1]
  after_results_simp
theorem keepLogRound1 : after opsRound1 V (no_index (Proc.devRef .tc main_v2)) = V (Proc.devRef .tc main_v2) := by
  simp only [opsRound1]
  after_results_simp
theorem pRound1 : after opsRound1 V (no_index (Proc.devRef .tc main_v17)) = (addi (V (Proc.devRef .tc main_v14)) (V (Proc.devRef .tc main_v16)) : Words F) := by
  simp only [opsRound1]
  after_results_simp
  all_goals rfl
theorem qRound1 : after opsRound1 V (no_index (Proc.devRef .tc main_v23)) = mixR 13#32 19#32 (V (Proc.devRef .tc main_v14)) (V (Proc.devRef .tc main_v16)) := by
  simp only [opsRound1]
  after_results_simp
  all_goals rfl
theorem keepArgRound2 : after opsRound2 V (no_index (Proc.devRef .tc main_arg0)) = V (Proc.devRef .tc main_arg0) := by
  simp only [opsRound2]
  after_results_simp
theorem keepLogRound2 : after opsRound2 V (no_index (Proc.devRef .tc main_v2)) = V (Proc.devRef .tc main_v2) := by
  simp only [opsRound2]
  after_results_simp
theorem pRound2 : after opsRound2 V (no_index (Proc.devRef .tc main_v24)) = (addi (V (Proc.devRef .tc main_v17)) (V (Proc.devRef .tc main_v23)) : Words F) := by
  simp only [opsRound2]
  after_results_simp
  all_goals rfl
theorem qRound2 : after opsRound2 V (no_index (Proc.devRef .tc main_v30)) = mixR 15#32 17#32 (V (Proc.devRef .tc main_v17)) (V (Proc.devRef .tc main_v23)) := by
  simp only [opsRound2]
  after_results_simp
  all_goals rfl
theorem keepArgRound3 : after opsRound3 V (no_index (Proc.devRef .tc main_arg0)) = V (Proc.devRef .tc main_arg0) := by
  simp only [opsRound3]
  after_results_simp
theorem keepLogRound3 : after opsRound3 V (no_index (Proc.devRef .tc main_v2)) = V (Proc.devRef .tc main_v2) := by
  simp only [opsRound3]
  after_results_simp
theorem pRound3 : after opsRound3 V (no_index (Proc.devRef .tc main_v31)) = (addi (V (Proc.devRef .tc main_v24)) (V (Proc.devRef .tc main_v30)) : Words F) := by
  simp only [opsRound3]
  after_results_simp
  all_goals rfl
theorem qRound3 : after opsRound3 V (no_index (Proc.devRef .tc main_v37)) = mixR 26#32 6#32 (V (Proc.devRef .tc main_v24)) (V (Proc.devRef .tc main_v30)) := by
  simp only [opsRound3]
  after_results_simp
  all_goals rfl
theorem keepArgRound4 : after opsRound4 V (no_index (Proc.devRef .tc main_arg0)) = V (Proc.devRef .tc main_arg0) := by
  simp only [opsRound4]
  after_results_simp
theorem keepLogRound4 : after opsRound4 V (no_index (Proc.devRef .tc main_v2)) = V (Proc.devRef .tc main_v2) := by
  simp only [opsRound4]
  after_results_simp
theorem pRound4 : after opsRound4 V (no_index (Proc.devRef .tc main_v38)) = (addi (V (Proc.devRef .tc main_v31)) (V (Proc.devRef .tc main_v37)) : Words F) := by
  simp only [opsRound4]
  after_results_simp
  all_goals rfl
theorem qRound4 : after opsRound4 V (no_index (Proc.devRef .tc main_v44)) = mixR 6#32 26#32 (V (Proc.devRef .tc main_v31)) (V (Proc.devRef .tc main_v37)) := by
  simp only [opsRound4]
  after_results_simp
  all_goals rfl
theorem keepArgKey1 : after opsKey1 V (no_index (Proc.devRef .tc main_arg0)) = V (Proc.devRef .tc main_arg0) := by
  simp only [opsKey1]
  after_results_simp
theorem keepLogKey1 : after opsKey1 V (no_index (Proc.devRef .tc main_v2)) = V (Proc.devRef .tc main_v2) := by
  simp only [opsKey1]
  after_results_simp
theorem pKey1 : after opsKey1 V (no_index (Proc.devRef .tc main_v46)) = (addi (V (Proc.devRef .tc main_v38)) (allW F 42#32) : Words F) := by
  simp only [opsKey1]
  after_results_simp
  all_goals rfl
theorem qKey1 : after opsKey1 V (no_index (Proc.devRef .tc main_v48)) = (addi (V (Proc.devRef .tc main_v44)) (allW F 466689009#32) : Words F) := by
  simp only [opsKey1]
  after_results_simp
  all_goals rfl
theorem keepArgRound5 : after opsRound5 V (no_index (Proc.devRef .tc main_arg0)) = V (Proc.devRef .tc main_arg0) := by
  simp only [opsRound5]
  after_results_simp
theorem keepLogRound5 : after opsRound5 V (no_index (Proc.devRef .tc main_v2)) = V (Proc.devRef .tc main_v2) := by
  simp only [opsRound5]
  after_results_simp
theorem pRound5 : after opsRound5 V (no_index (Proc.devRef .tc main_v49)) = (addi (V (Proc.devRef .tc main_v46)) (V (Proc.devRef .tc main_v48)) : Words F) := by
  simp only [opsRound5]
  after_results_simp
  all_goals rfl
theorem qRound5 : after opsRound5 V (no_index (Proc.devRef .tc main_v55)) = mixR 17#32 15#32 (V (Proc.devRef .tc main_v46)) (V (Proc.devRef .tc main_v48)) := by
  simp only [opsRound5]
  after_results_simp
  all_goals rfl
theorem keepArgRound6 : after opsRound6 V (no_index (Proc.devRef .tc main_arg0)) = V (Proc.devRef .tc main_arg0) := by
  simp only [opsRound6]
  after_results_simp
theorem keepLogRound6 : after opsRound6 V (no_index (Proc.devRef .tc main_v2)) = V (Proc.devRef .tc main_v2) := by
  simp only [opsRound6]
  after_results_simp
theorem pRound6 : after opsRound6 V (no_index (Proc.devRef .tc main_v56)) = (addi (V (Proc.devRef .tc main_v49)) (V (Proc.devRef .tc main_v55)) : Words F) := by
  simp only [opsRound6]
  after_results_simp
  all_goals rfl
theorem qRound6 : after opsRound6 V (no_index (Proc.devRef .tc main_v62)) = mixR 29#32 3#32 (V (Proc.devRef .tc main_v49)) (V (Proc.devRef .tc main_v55)) := by
  simp only [opsRound6]
  after_results_simp
  all_goals rfl
theorem keepArgRound7 : after opsRound7 V (no_index (Proc.devRef .tc main_arg0)) = V (Proc.devRef .tc main_arg0) := by
  simp only [opsRound7]
  after_results_simp
theorem keepLogRound7 : after opsRound7 V (no_index (Proc.devRef .tc main_v2)) = V (Proc.devRef .tc main_v2) := by
  simp only [opsRound7]
  after_results_simp
theorem pRound7 : after opsRound7 V (no_index (Proc.devRef .tc main_v63)) = (addi (V (Proc.devRef .tc main_v56)) (V (Proc.devRef .tc main_v62)) : Words F) := by
  simp only [opsRound7]
  after_results_simp
  all_goals rfl
theorem qRound7 : after opsRound7 V (no_index (Proc.devRef .tc main_v69)) = mixR 16#32 16#32 (V (Proc.devRef .tc main_v56)) (V (Proc.devRef .tc main_v62)) := by
  simp only [opsRound7]
  after_results_simp
  all_goals rfl
theorem keepArgRound8 : after opsRound8 V (no_index (Proc.devRef .tc main_arg0)) = V (Proc.devRef .tc main_arg0) := by
  simp only [opsRound8]
  after_results_simp
theorem keepLogRound8 : after opsRound8 V (no_index (Proc.devRef .tc main_v2)) = V (Proc.devRef .tc main_v2) := by
  simp only [opsRound8]
  after_results_simp
theorem pRound8 : after opsRound8 V (no_index (Proc.devRef .tc main_v70)) = (addi (V (Proc.devRef .tc main_v63)) (V (Proc.devRef .tc main_v69)) : Words F) := by
  simp only [opsRound8]
  after_results_simp
  all_goals rfl
theorem qRound8 : after opsRound8 V (no_index (Proc.devRef .tc main_v76)) = mixR 24#32 8#32 (V (Proc.devRef .tc main_v63)) (V (Proc.devRef .tc main_v69)) := by
  simp only [opsRound8]
  after_results_simp
  all_goals rfl
theorem keepArgKey2 : after opsKey2 V (no_index (Proc.devRef .tc main_arg0)) = V (Proc.devRef .tc main_arg0) := by
  simp only [opsKey2]
  after_results_simp
theorem keepLogKey2 : after opsKey2 V (no_index (Proc.devRef .tc main_v2)) = V (Proc.devRef .tc main_v2) := by
  simp only [opsKey2]
  after_results_simp
theorem pKey2 : after opsKey2 V (no_index (Proc.devRef .tc main_v78)) = (addi (V (Proc.devRef .tc main_v70)) (allW F 466689008#32) : Words F) := by
  simp only [opsKey2]
  after_results_simp
  all_goals rfl
theorem qKey2 : after opsKey2 V (no_index (Proc.devRef .tc main_v80)) = (addi (V (Proc.devRef .tc main_v76)) (allW F 2#32) : Words F) := by
  simp only [opsKey2]
  after_results_simp
  all_goals rfl
theorem keepArgRound9 : after opsRound9 V (no_index (Proc.devRef .tc main_arg0)) = V (Proc.devRef .tc main_arg0) := by
  simp only [opsRound9]
  after_results_simp
theorem keepLogRound9 : after opsRound9 V (no_index (Proc.devRef .tc main_v2)) = V (Proc.devRef .tc main_v2) := by
  simp only [opsRound9]
  after_results_simp
theorem pRound9 : after opsRound9 V (no_index (Proc.devRef .tc main_v81)) = (addi (V (Proc.devRef .tc main_v78)) (V (Proc.devRef .tc main_v80)) : Words F) := by
  simp only [opsRound9]
  after_results_simp
  all_goals rfl
theorem qRound9 : after opsRound9 V (no_index (Proc.devRef .tc main_v87)) = mixR 13#32 19#32 (V (Proc.devRef .tc main_v78)) (V (Proc.devRef .tc main_v80)) := by
  simp only [opsRound9]
  after_results_simp
  all_goals rfl
theorem keepArgRound10 : after opsRound10 V (no_index (Proc.devRef .tc main_arg0)) = V (Proc.devRef .tc main_arg0) := by
  simp only [opsRound10]
  after_results_simp
theorem keepLogRound10 : after opsRound10 V (no_index (Proc.devRef .tc main_v2)) = V (Proc.devRef .tc main_v2) := by
  simp only [opsRound10]
  after_results_simp
theorem pRound10 : after opsRound10 V (no_index (Proc.devRef .tc main_v88)) = (addi (V (Proc.devRef .tc main_v81)) (V (Proc.devRef .tc main_v87)) : Words F) := by
  simp only [opsRound10]
  after_results_simp
  all_goals rfl
theorem qRound10 : after opsRound10 V (no_index (Proc.devRef .tc main_v94)) = mixR 15#32 17#32 (V (Proc.devRef .tc main_v81)) (V (Proc.devRef .tc main_v87)) := by
  simp only [opsRound10]
  after_results_simp
  all_goals rfl
theorem keepArgRound11 : after opsRound11 V (no_index (Proc.devRef .tc main_arg0)) = V (Proc.devRef .tc main_arg0) := by
  simp only [opsRound11]
  after_results_simp
theorem keepLogRound11 : after opsRound11 V (no_index (Proc.devRef .tc main_v2)) = V (Proc.devRef .tc main_v2) := by
  simp only [opsRound11]
  after_results_simp
theorem pRound11 : after opsRound11 V (no_index (Proc.devRef .tc main_v95)) = (addi (V (Proc.devRef .tc main_v88)) (V (Proc.devRef .tc main_v94)) : Words F) := by
  simp only [opsRound11]
  after_results_simp
  all_goals rfl
theorem qRound11 : after opsRound11 V (no_index (Proc.devRef .tc main_v101)) = mixR 26#32 6#32 (V (Proc.devRef .tc main_v88)) (V (Proc.devRef .tc main_v94)) := by
  simp only [opsRound11]
  after_results_simp
  all_goals rfl
theorem keepArgRound12 : after opsRound12 V (no_index (Proc.devRef .tc main_arg0)) = V (Proc.devRef .tc main_arg0) := by
  simp only [opsRound12]
  after_results_simp
theorem keepLogRound12 : after opsRound12 V (no_index (Proc.devRef .tc main_v2)) = V (Proc.devRef .tc main_v2) := by
  simp only [opsRound12]
  after_results_simp
theorem pRound12 : after opsRound12 V (no_index (Proc.devRef .tc main_v102)) = (addi (V (Proc.devRef .tc main_v95)) (V (Proc.devRef .tc main_v101)) : Words F) := by
  simp only [opsRound12]
  after_results_simp
  all_goals rfl
theorem qRound12 : after opsRound12 V (no_index (Proc.devRef .tc main_v108)) = mixR 6#32 26#32 (V (Proc.devRef .tc main_v95)) (V (Proc.devRef .tc main_v101)) := by
  simp only [opsRound12]
  after_results_simp
  all_goals rfl
theorem keepArgKey3 : after opsKey3 V (no_index (Proc.devRef .tc main_arg0)) = V (Proc.devRef .tc main_arg0) := by
  simp only [opsKey3]
  after_results_simp
theorem keepLogKey3 : after opsKey3 V (no_index (Proc.devRef .tc main_v2)) = V (Proc.devRef .tc main_v2) := by
  simp only [opsKey3]
  after_results_simp
theorem pKey3 : after opsKey3 V (no_index (Proc.devRef .tc main_v110)) = (addi (V (Proc.devRef .tc main_v102)) (allW F 0#32) : Words F) := by
  simp only [opsKey3]
  after_results_simp
  all_goals rfl
theorem qKey3 : after opsKey3 V (no_index (Proc.devRef .tc main_v112)) = (addi (V (Proc.devRef .tc main_v108)) (allW F 45#32) : Words F) := by
  simp only [opsKey3]
  after_results_simp
  all_goals rfl
theorem keepArgRound13 : after opsRound13 V (no_index (Proc.devRef .tc main_arg0)) = V (Proc.devRef .tc main_arg0) := by
  simp only [opsRound13]
  after_results_simp
theorem keepLogRound13 : after opsRound13 V (no_index (Proc.devRef .tc main_v2)) = V (Proc.devRef .tc main_v2) := by
  simp only [opsRound13]
  after_results_simp
theorem pRound13 : after opsRound13 V (no_index (Proc.devRef .tc main_v113)) = (addi (V (Proc.devRef .tc main_v110)) (V (Proc.devRef .tc main_v112)) : Words F) := by
  simp only [opsRound13]
  after_results_simp
  all_goals rfl
theorem qRound13 : after opsRound13 V (no_index (Proc.devRef .tc main_v119)) = mixR 17#32 15#32 (V (Proc.devRef .tc main_v110)) (V (Proc.devRef .tc main_v112)) := by
  simp only [opsRound13]
  after_results_simp
  all_goals rfl
theorem keepArgRound14 : after opsRound14 V (no_index (Proc.devRef .tc main_arg0)) = V (Proc.devRef .tc main_arg0) := by
  simp only [opsRound14]
  after_results_simp
theorem keepLogRound14 : after opsRound14 V (no_index (Proc.devRef .tc main_v2)) = V (Proc.devRef .tc main_v2) := by
  simp only [opsRound14]
  after_results_simp
theorem pRound14 : after opsRound14 V (no_index (Proc.devRef .tc main_v120)) = (addi (V (Proc.devRef .tc main_v113)) (V (Proc.devRef .tc main_v119)) : Words F) := by
  simp only [opsRound14]
  after_results_simp
  all_goals rfl
theorem qRound14 : after opsRound14 V (no_index (Proc.devRef .tc main_v126)) = mixR 29#32 3#32 (V (Proc.devRef .tc main_v113)) (V (Proc.devRef .tc main_v119)) := by
  simp only [opsRound14]
  after_results_simp
  all_goals rfl
theorem keepArgRound15 : after opsRound15 V (no_index (Proc.devRef .tc main_arg0)) = V (Proc.devRef .tc main_arg0) := by
  simp only [opsRound15]
  after_results_simp
theorem keepLogRound15 : after opsRound15 V (no_index (Proc.devRef .tc main_v2)) = V (Proc.devRef .tc main_v2) := by
  simp only [opsRound15]
  after_results_simp
theorem pRound15 : after opsRound15 V (no_index (Proc.devRef .tc main_v127)) = (addi (V (Proc.devRef .tc main_v120)) (V (Proc.devRef .tc main_v126)) : Words F) := by
  simp only [opsRound15]
  after_results_simp
  all_goals rfl
theorem qRound15 : after opsRound15 V (no_index (Proc.devRef .tc main_v133)) = mixR 16#32 16#32 (V (Proc.devRef .tc main_v120)) (V (Proc.devRef .tc main_v126)) := by
  simp only [opsRound15]
  after_results_simp
  all_goals rfl
theorem keepArgRound16 : after opsRound16 V (no_index (Proc.devRef .tc main_arg0)) = V (Proc.devRef .tc main_arg0) := by
  simp only [opsRound16]
  after_results_simp
theorem keepLogRound16 : after opsRound16 V (no_index (Proc.devRef .tc main_v2)) = V (Proc.devRef .tc main_v2) := by
  simp only [opsRound16]
  after_results_simp
theorem pRound16 : after opsRound16 V (no_index (Proc.devRef .tc main_v134)) = (addi (V (Proc.devRef .tc main_v127)) (V (Proc.devRef .tc main_v133)) : Words F) := by
  simp only [opsRound16]
  after_results_simp
  all_goals rfl
theorem qRound16 : after opsRound16 V (no_index (Proc.devRef .tc main_v140)) = mixR 24#32 8#32 (V (Proc.devRef .tc main_v127)) (V (Proc.devRef .tc main_v133)) := by
  simp only [opsRound16]
  after_results_simp
  all_goals rfl
theorem keepArgKey4 : after opsKey4 V (no_index (Proc.devRef .tc main_arg0)) = V (Proc.devRef .tc main_arg0) := by
  simp only [opsKey4]
  after_results_simp
theorem keepLogKey4 : after opsKey4 V (no_index (Proc.devRef .tc main_v2)) = V (Proc.devRef .tc main_v2) := by
  simp only [opsKey4]
  after_results_simp
theorem pKey4 : after opsKey4 V (no_index (Proc.devRef .tc main_v142)) = (addi (V (Proc.devRef .tc main_v134)) (allW F 42#32) : Words F) := by
  simp only [opsKey4]
  after_results_simp
  all_goals rfl
theorem qKey4 : after opsKey4 V (no_index (Proc.devRef .tc main_v144)) = (addi (V (Proc.devRef .tc main_v140)) (allW F 466689012#32) : Words F) := by
  simp only [opsKey4]
  after_results_simp
  all_goals rfl
theorem keepArgRound17 : after opsRound17 V (no_index (Proc.devRef .tc main_arg0)) = V (Proc.devRef .tc main_arg0) := by
  simp only [opsRound17]
  after_results_simp
theorem keepLogRound17 : after opsRound17 V (no_index (Proc.devRef .tc main_v2)) = V (Proc.devRef .tc main_v2) := by
  simp only [opsRound17]
  after_results_simp
theorem pRound17 : after opsRound17 V (no_index (Proc.devRef .tc main_v145)) = (addi (V (Proc.devRef .tc main_v142)) (V (Proc.devRef .tc main_v144)) : Words F) := by
  simp only [opsRound17]
  after_results_simp
  all_goals rfl
theorem qRound17 : after opsRound17 V (no_index (Proc.devRef .tc main_v151)) = mixR 13#32 19#32 (V (Proc.devRef .tc main_v142)) (V (Proc.devRef .tc main_v144)) := by
  simp only [opsRound17]
  after_results_simp
  all_goals rfl
theorem keepArgRound18 : after opsRound18 V (no_index (Proc.devRef .tc main_arg0)) = V (Proc.devRef .tc main_arg0) := by
  simp only [opsRound18]
  after_results_simp
theorem keepLogRound18 : after opsRound18 V (no_index (Proc.devRef .tc main_v2)) = V (Proc.devRef .tc main_v2) := by
  simp only [opsRound18]
  after_results_simp
theorem pRound18 : after opsRound18 V (no_index (Proc.devRef .tc main_v152)) = (addi (V (Proc.devRef .tc main_v145)) (V (Proc.devRef .tc main_v151)) : Words F) := by
  simp only [opsRound18]
  after_results_simp
  all_goals rfl
theorem qRound18 : after opsRound18 V (no_index (Proc.devRef .tc main_v158)) = mixR 15#32 17#32 (V (Proc.devRef .tc main_v145)) (V (Proc.devRef .tc main_v151)) := by
  simp only [opsRound18]
  after_results_simp
  all_goals rfl
theorem keepArgRound19 : after opsRound19 V (no_index (Proc.devRef .tc main_arg0)) = V (Proc.devRef .tc main_arg0) := by
  simp only [opsRound19]
  after_results_simp
theorem keepLogRound19 : after opsRound19 V (no_index (Proc.devRef .tc main_v2)) = V (Proc.devRef .tc main_v2) := by
  simp only [opsRound19]
  after_results_simp
theorem pRound19 : after opsRound19 V (no_index (Proc.devRef .tc main_v159)) = (addi (V (Proc.devRef .tc main_v152)) (V (Proc.devRef .tc main_v158)) : Words F) := by
  simp only [opsRound19]
  after_results_simp
  all_goals rfl
theorem qRound19 : after opsRound19 V (no_index (Proc.devRef .tc main_v165)) = mixR 26#32 6#32 (V (Proc.devRef .tc main_v152)) (V (Proc.devRef .tc main_v158)) := by
  simp only [opsRound19]
  after_results_simp
  all_goals rfl
theorem keepArgRound20 : after opsRound20 V (no_index (Proc.devRef .tc main_arg0)) = V (Proc.devRef .tc main_arg0) := by
  simp only [opsRound20]
  after_results_simp
theorem keepLogRound20 : after opsRound20 V (no_index (Proc.devRef .tc main_v2)) = V (Proc.devRef .tc main_v2) := by
  simp only [opsRound20]
  after_results_simp
theorem pRound20 : after opsRound20 V (no_index (Proc.devRef .tc main_v166)) = (addi (V (Proc.devRef .tc main_v159)) (V (Proc.devRef .tc main_v165)) : Words F) := by
  simp only [opsRound20]
  after_results_simp
  all_goals rfl
theorem qRound20 : after opsRound20 V (no_index (Proc.devRef .tc main_v172)) = mixR 6#32 26#32 (V (Proc.devRef .tc main_v159)) (V (Proc.devRef .tc main_v165)) := by
  simp only [opsRound20]
  after_results_simp
  all_goals rfl
theorem keepArgKey5 : after opsKey5 V (no_index (Proc.devRef .tc main_arg0)) = V (Proc.devRef .tc main_arg0) := by
  simp only [opsKey5]
  after_results_simp
theorem keepLogKey5 : after opsKey5 V (no_index (Proc.devRef .tc main_v2)) = V (Proc.devRef .tc main_v2) := by
  simp only [opsKey5]
  after_results_simp
theorem pKey5 : after opsKey5 V (no_index (Proc.devRef .tc main_v174)) = (addi (V (Proc.devRef .tc main_v166)) (allW F 466689008#32) : Words F) := by
  simp only [opsKey5]
  after_results_simp
  all_goals rfl
theorem qKey5 : after opsKey5 V (no_index (Proc.devRef .tc main_v176)) = (addi (V (Proc.devRef .tc main_v172)) (allW F 5#32) : Words F) := by
  simp only [opsKey5]
  after_results_simp
  all_goals rfl
theorem keepArgEnd : after opsEnd V (no_index (Proc.devRef .tc main_arg0)) = V (Proc.devRef .tc main_arg0) := by
  simp only [opsEnd]
  after_results_simp
theorem resEnd : after opsEnd V (no_index (Proc.devRef .tc main_v198)) = best (scores (uniformsR (V (Proc.devRef .tc main_v174)) (V (Proc.devRef .tc main_v176))) (V (Proc.devRef .tc main_v2))) := by
  simp only [opsEnd]
  after_results_simp
  all_goals rfl

/-- One round, and one key addition, on a pair of words. -/
def stepR (a b : BitVec 32) (z : Words F × Words F) : Words F × Words F := (addi z.1 z.2, mixR a b z.1 z.2)
def injR (k l : BitVec 32) (z : Words F × Words F) : Words F × Words F := (addi z.1 (allW F k), addi z.2 (allW F l))

/-- The pair of words before the rounds. -/
def zStart (F : FTy → Type) [FloatOps F] : Words F × Words F := (addi (allW F 0#32) (allW F 0#32), addi (positions F) (allW F 42#32))
def zRound1 (F : FTy → Type) [FloatOps F] : Words F × Words F := stepR 13#32 19#32 (zStart F)
def zRound2 (F : FTy → Type) [FloatOps F] : Words F × Words F := stepR 15#32 17#32 (zRound1 F)
def zRound3 (F : FTy → Type) [FloatOps F] : Words F × Words F := stepR 26#32 6#32 (zRound2 F)
def zRound4 (F : FTy → Type) [FloatOps F] : Words F × Words F := stepR 6#32 26#32 (zRound3 F)
def zKey1 (F : FTy → Type) [FloatOps F] : Words F × Words F := injR 42#32 466689009#32 (zRound4 F)
def zRound5 (F : FTy → Type) [FloatOps F] : Words F × Words F := stepR 17#32 15#32 (zKey1 F)
def zRound6 (F : FTy → Type) [FloatOps F] : Words F × Words F := stepR 29#32 3#32 (zRound5 F)
def zRound7 (F : FTy → Type) [FloatOps F] : Words F × Words F := stepR 16#32 16#32 (zRound6 F)
def zRound8 (F : FTy → Type) [FloatOps F] : Words F × Words F := stepR 24#32 8#32 (zRound7 F)
def zKey2 (F : FTy → Type) [FloatOps F] : Words F × Words F := injR 466689008#32 2#32 (zRound8 F)
def zRound9 (F : FTy → Type) [FloatOps F] : Words F × Words F := stepR 13#32 19#32 (zKey2 F)
def zRound10 (F : FTy → Type) [FloatOps F] : Words F × Words F := stepR 15#32 17#32 (zRound9 F)
def zRound11 (F : FTy → Type) [FloatOps F] : Words F × Words F := stepR 26#32 6#32 (zRound10 F)
def zRound12 (F : FTy → Type) [FloatOps F] : Words F × Words F := stepR 6#32 26#32 (zRound11 F)
def zKey3 (F : FTy → Type) [FloatOps F] : Words F × Words F := injR 0#32 45#32 (zRound12 F)
def zRound13 (F : FTy → Type) [FloatOps F] : Words F × Words F := stepR 17#32 15#32 (zKey3 F)
def zRound14 (F : FTy → Type) [FloatOps F] : Words F × Words F := stepR 29#32 3#32 (zRound13 F)
def zRound15 (F : FTy → Type) [FloatOps F] : Words F × Words F := stepR 16#32 16#32 (zRound14 F)
def zRound16 (F : FTy → Type) [FloatOps F] : Words F × Words F := stepR 24#32 8#32 (zRound15 F)
def zKey4 (F : FTy → Type) [FloatOps F] : Words F × Words F := injR 42#32 466689012#32 (zRound16 F)
def zRound17 (F : FTy → Type) [FloatOps F] : Words F × Words F := stepR 13#32 19#32 (zKey4 F)
def zRound18 (F : FTy → Type) [FloatOps F] : Words F × Words F := stepR 15#32 17#32 (zRound17 F)
def zRound19 (F : FTy → Type) [FloatOps F] : Words F × Words F := stepR 26#32 6#32 (zRound18 F)
def zRound20 (F : FTy → Type) [FloatOps F] : Words F × Words F := stepR 6#32 26#32 (zRound19 F)
def zKey5 (F : FTy → Type) [FloatOps F] : Words F × Words F := injR 466689008#32 5#32 (zRound20 F)

/-- The valuation after each window. -/
def VStart : Valuation τ sig (Elt F) := after opsStart V
def VRound1 : Valuation τ sig (Elt F) := after opsRound1 (VStart V)
def VRound2 : Valuation τ sig (Elt F) := after opsRound2 (VRound1 V)
def VRound3 : Valuation τ sig (Elt F) := after opsRound3 (VRound2 V)
def VRound4 : Valuation τ sig (Elt F) := after opsRound4 (VRound3 V)
def VKey1 : Valuation τ sig (Elt F) := after opsKey1 (VRound4 V)
def VRound5 : Valuation τ sig (Elt F) := after opsRound5 (VKey1 V)
def VRound6 : Valuation τ sig (Elt F) := after opsRound6 (VRound5 V)
def VRound7 : Valuation τ sig (Elt F) := after opsRound7 (VRound6 V)
def VRound8 : Valuation τ sig (Elt F) := after opsRound8 (VRound7 V)
def VKey2 : Valuation τ sig (Elt F) := after opsKey2 (VRound8 V)
def VRound9 : Valuation τ sig (Elt F) := after opsRound9 (VKey2 V)
def VRound10 : Valuation τ sig (Elt F) := after opsRound10 (VRound9 V)
def VRound11 : Valuation τ sig (Elt F) := after opsRound11 (VRound10 V)
def VRound12 : Valuation τ sig (Elt F) := after opsRound12 (VRound11 V)
def VKey3 : Valuation τ sig (Elt F) := after opsKey3 (VRound12 V)
def VRound13 : Valuation τ sig (Elt F) := after opsRound13 (VKey3 V)
def VRound14 : Valuation τ sig (Elt F) := after opsRound14 (VRound13 V)
def VRound15 : Valuation τ sig (Elt F) := after opsRound15 (VRound14 V)
def VRound16 : Valuation τ sig (Elt F) := after opsRound16 (VRound15 V)
def VKey4 : Valuation τ sig (Elt F) := after opsKey4 (VRound16 V)
def VRound17 : Valuation τ sig (Elt F) := after opsRound17 (VKey4 V)
def VRound18 : Valuation τ sig (Elt F) := after opsRound18 (VRound17 V)
def VRound19 : Valuation τ sig (Elt F) := after opsRound19 (VRound18 V)
def VRound20 : Valuation τ sig (Elt F) := after opsRound20 (VRound19 V)
def VKey5 : Valuation τ sig (Elt F) := after opsKey5 (VRound20 V)
def VEnd : Valuation τ sig (Elt F) := after opsEnd (VKey5 V)

theorem argStart : VStart V (Proc.devRef .tc main_arg0) = V (Proc.devRef .tc main_arg0) := keepArgStart V
theorem lgStart : VStart V (Proc.devRef .tc main_v2) = logits (V (Proc.devRef .tc main_arg0)) := logStart V
theorem zpStart : VStart V (Proc.devRef .tc main_v14) = (zStart F).1 := p0 V
theorem zqStart : VStart V (Proc.devRef .tc main_v16) = (zStart F).2 := q0 V
theorem argRound1 : VRound1 V (Proc.devRef .tc main_arg0) = V (Proc.devRef .tc main_arg0) := (keepArgRound1 _).trans (argStart V)
theorem lgRound1 : VRound1 V (Proc.devRef .tc main_v2) = logits (V (Proc.devRef .tc main_arg0)) := (keepLogRound1 _).trans (lgStart V)
theorem zpRound1 : VRound1 V (Proc.devRef .tc main_v17) = (zRound1 F).1 := (pRound1 _).trans (by rw [zpStart, zqStart]; rfl)
theorem zqRound1 : VRound1 V (Proc.devRef .tc main_v23) = (zRound1 F).2 := (qRound1 _).trans (by rw [zpStart, zqStart]; rfl)
theorem argRound2 : VRound2 V (Proc.devRef .tc main_arg0) = V (Proc.devRef .tc main_arg0) := (keepArgRound2 _).trans (argRound1 V)
theorem lgRound2 : VRound2 V (Proc.devRef .tc main_v2) = logits (V (Proc.devRef .tc main_arg0)) := (keepLogRound2 _).trans (lgRound1 V)
theorem zpRound2 : VRound2 V (Proc.devRef .tc main_v24) = (zRound2 F).1 := (pRound2 _).trans (by rw [zpRound1, zqRound1]; rfl)
theorem zqRound2 : VRound2 V (Proc.devRef .tc main_v30) = (zRound2 F).2 := (qRound2 _).trans (by rw [zpRound1, zqRound1]; rfl)
theorem argRound3 : VRound3 V (Proc.devRef .tc main_arg0) = V (Proc.devRef .tc main_arg0) := (keepArgRound3 _).trans (argRound2 V)
theorem lgRound3 : VRound3 V (Proc.devRef .tc main_v2) = logits (V (Proc.devRef .tc main_arg0)) := (keepLogRound3 _).trans (lgRound2 V)
theorem zpRound3 : VRound3 V (Proc.devRef .tc main_v31) = (zRound3 F).1 := (pRound3 _).trans (by rw [zpRound2, zqRound2]; rfl)
theorem zqRound3 : VRound3 V (Proc.devRef .tc main_v37) = (zRound3 F).2 := (qRound3 _).trans (by rw [zpRound2, zqRound2]; rfl)
theorem argRound4 : VRound4 V (Proc.devRef .tc main_arg0) = V (Proc.devRef .tc main_arg0) := (keepArgRound4 _).trans (argRound3 V)
theorem lgRound4 : VRound4 V (Proc.devRef .tc main_v2) = logits (V (Proc.devRef .tc main_arg0)) := (keepLogRound4 _).trans (lgRound3 V)
theorem zpRound4 : VRound4 V (Proc.devRef .tc main_v38) = (zRound4 F).1 := (pRound4 _).trans (by rw [zpRound3, zqRound3]; rfl)
theorem zqRound4 : VRound4 V (Proc.devRef .tc main_v44) = (zRound4 F).2 := (qRound4 _).trans (by rw [zpRound3, zqRound3]; rfl)
theorem argKey1 : VKey1 V (Proc.devRef .tc main_arg0) = V (Proc.devRef .tc main_arg0) := (keepArgKey1 _).trans (argRound4 V)
theorem lgKey1 : VKey1 V (Proc.devRef .tc main_v2) = logits (V (Proc.devRef .tc main_arg0)) := (keepLogKey1 _).trans (lgRound4 V)
theorem zpKey1 : VKey1 V (Proc.devRef .tc main_v46) = (zKey1 F).1 := (pKey1 _).trans (by rw [zpRound4]; rfl)
theorem zqKey1 : VKey1 V (Proc.devRef .tc main_v48) = (zKey1 F).2 := (qKey1 _).trans (by rw [zqRound4]; rfl)
theorem argRound5 : VRound5 V (Proc.devRef .tc main_arg0) = V (Proc.devRef .tc main_arg0) := (keepArgRound5 _).trans (argKey1 V)
theorem lgRound5 : VRound5 V (Proc.devRef .tc main_v2) = logits (V (Proc.devRef .tc main_arg0)) := (keepLogRound5 _).trans (lgKey1 V)
theorem zpRound5 : VRound5 V (Proc.devRef .tc main_v49) = (zRound5 F).1 := (pRound5 _).trans (by rw [zpKey1, zqKey1]; rfl)
theorem zqRound5 : VRound5 V (Proc.devRef .tc main_v55) = (zRound5 F).2 := (qRound5 _).trans (by rw [zpKey1, zqKey1]; rfl)
theorem argRound6 : VRound6 V (Proc.devRef .tc main_arg0) = V (Proc.devRef .tc main_arg0) := (keepArgRound6 _).trans (argRound5 V)
theorem lgRound6 : VRound6 V (Proc.devRef .tc main_v2) = logits (V (Proc.devRef .tc main_arg0)) := (keepLogRound6 _).trans (lgRound5 V)
theorem zpRound6 : VRound6 V (Proc.devRef .tc main_v56) = (zRound6 F).1 := (pRound6 _).trans (by rw [zpRound5, zqRound5]; rfl)
theorem zqRound6 : VRound6 V (Proc.devRef .tc main_v62) = (zRound6 F).2 := (qRound6 _).trans (by rw [zpRound5, zqRound5]; rfl)
theorem argRound7 : VRound7 V (Proc.devRef .tc main_arg0) = V (Proc.devRef .tc main_arg0) := (keepArgRound7 _).trans (argRound6 V)
theorem lgRound7 : VRound7 V (Proc.devRef .tc main_v2) = logits (V (Proc.devRef .tc main_arg0)) := (keepLogRound7 _).trans (lgRound6 V)
theorem zpRound7 : VRound7 V (Proc.devRef .tc main_v63) = (zRound7 F).1 := (pRound7 _).trans (by rw [zpRound6, zqRound6]; rfl)
theorem zqRound7 : VRound7 V (Proc.devRef .tc main_v69) = (zRound7 F).2 := (qRound7 _).trans (by rw [zpRound6, zqRound6]; rfl)
theorem argRound8 : VRound8 V (Proc.devRef .tc main_arg0) = V (Proc.devRef .tc main_arg0) := (keepArgRound8 _).trans (argRound7 V)
theorem lgRound8 : VRound8 V (Proc.devRef .tc main_v2) = logits (V (Proc.devRef .tc main_arg0)) := (keepLogRound8 _).trans (lgRound7 V)
theorem zpRound8 : VRound8 V (Proc.devRef .tc main_v70) = (zRound8 F).1 := (pRound8 _).trans (by rw [zpRound7, zqRound7]; rfl)
theorem zqRound8 : VRound8 V (Proc.devRef .tc main_v76) = (zRound8 F).2 := (qRound8 _).trans (by rw [zpRound7, zqRound7]; rfl)
theorem argKey2 : VKey2 V (Proc.devRef .tc main_arg0) = V (Proc.devRef .tc main_arg0) := (keepArgKey2 _).trans (argRound8 V)
theorem lgKey2 : VKey2 V (Proc.devRef .tc main_v2) = logits (V (Proc.devRef .tc main_arg0)) := (keepLogKey2 _).trans (lgRound8 V)
theorem zpKey2 : VKey2 V (Proc.devRef .tc main_v78) = (zKey2 F).1 := (pKey2 _).trans (by rw [zpRound8]; rfl)
theorem zqKey2 : VKey2 V (Proc.devRef .tc main_v80) = (zKey2 F).2 := (qKey2 _).trans (by rw [zqRound8]; rfl)
theorem argRound9 : VRound9 V (Proc.devRef .tc main_arg0) = V (Proc.devRef .tc main_arg0) := (keepArgRound9 _).trans (argKey2 V)
theorem lgRound9 : VRound9 V (Proc.devRef .tc main_v2) = logits (V (Proc.devRef .tc main_arg0)) := (keepLogRound9 _).trans (lgKey2 V)
theorem zpRound9 : VRound9 V (Proc.devRef .tc main_v81) = (zRound9 F).1 := (pRound9 _).trans (by rw [zpKey2, zqKey2]; rfl)
theorem zqRound9 : VRound9 V (Proc.devRef .tc main_v87) = (zRound9 F).2 := (qRound9 _).trans (by rw [zpKey2, zqKey2]; rfl)
theorem argRound10 : VRound10 V (Proc.devRef .tc main_arg0) = V (Proc.devRef .tc main_arg0) := (keepArgRound10 _).trans (argRound9 V)
theorem lgRound10 : VRound10 V (Proc.devRef .tc main_v2) = logits (V (Proc.devRef .tc main_arg0)) := (keepLogRound10 _).trans (lgRound9 V)
theorem zpRound10 : VRound10 V (Proc.devRef .tc main_v88) = (zRound10 F).1 := (pRound10 _).trans (by rw [zpRound9, zqRound9]; rfl)
theorem zqRound10 : VRound10 V (Proc.devRef .tc main_v94) = (zRound10 F).2 := (qRound10 _).trans (by rw [zpRound9, zqRound9]; rfl)
theorem argRound11 : VRound11 V (Proc.devRef .tc main_arg0) = V (Proc.devRef .tc main_arg0) := (keepArgRound11 _).trans (argRound10 V)
theorem lgRound11 : VRound11 V (Proc.devRef .tc main_v2) = logits (V (Proc.devRef .tc main_arg0)) := (keepLogRound11 _).trans (lgRound10 V)
theorem zpRound11 : VRound11 V (Proc.devRef .tc main_v95) = (zRound11 F).1 := (pRound11 _).trans (by rw [zpRound10, zqRound10]; rfl)
theorem zqRound11 : VRound11 V (Proc.devRef .tc main_v101) = (zRound11 F).2 := (qRound11 _).trans (by rw [zpRound10, zqRound10]; rfl)
theorem argRound12 : VRound12 V (Proc.devRef .tc main_arg0) = V (Proc.devRef .tc main_arg0) := (keepArgRound12 _).trans (argRound11 V)
theorem lgRound12 : VRound12 V (Proc.devRef .tc main_v2) = logits (V (Proc.devRef .tc main_arg0)) := (keepLogRound12 _).trans (lgRound11 V)
theorem zpRound12 : VRound12 V (Proc.devRef .tc main_v102) = (zRound12 F).1 := (pRound12 _).trans (by rw [zpRound11, zqRound11]; rfl)
theorem zqRound12 : VRound12 V (Proc.devRef .tc main_v108) = (zRound12 F).2 := (qRound12 _).trans (by rw [zpRound11, zqRound11]; rfl)
theorem argKey3 : VKey3 V (Proc.devRef .tc main_arg0) = V (Proc.devRef .tc main_arg0) := (keepArgKey3 _).trans (argRound12 V)
theorem lgKey3 : VKey3 V (Proc.devRef .tc main_v2) = logits (V (Proc.devRef .tc main_arg0)) := (keepLogKey3 _).trans (lgRound12 V)
theorem zpKey3 : VKey3 V (Proc.devRef .tc main_v110) = (zKey3 F).1 := (pKey3 _).trans (by rw [zpRound12]; rfl)
theorem zqKey3 : VKey3 V (Proc.devRef .tc main_v112) = (zKey3 F).2 := (qKey3 _).trans (by rw [zqRound12]; rfl)
theorem argRound13 : VRound13 V (Proc.devRef .tc main_arg0) = V (Proc.devRef .tc main_arg0) := (keepArgRound13 _).trans (argKey3 V)
theorem lgRound13 : VRound13 V (Proc.devRef .tc main_v2) = logits (V (Proc.devRef .tc main_arg0)) := (keepLogRound13 _).trans (lgKey3 V)
theorem zpRound13 : VRound13 V (Proc.devRef .tc main_v113) = (zRound13 F).1 := (pRound13 _).trans (by rw [zpKey3, zqKey3]; rfl)
theorem zqRound13 : VRound13 V (Proc.devRef .tc main_v119) = (zRound13 F).2 := (qRound13 _).trans (by rw [zpKey3, zqKey3]; rfl)
theorem argRound14 : VRound14 V (Proc.devRef .tc main_arg0) = V (Proc.devRef .tc main_arg0) := (keepArgRound14 _).trans (argRound13 V)
theorem lgRound14 : VRound14 V (Proc.devRef .tc main_v2) = logits (V (Proc.devRef .tc main_arg0)) := (keepLogRound14 _).trans (lgRound13 V)
theorem zpRound14 : VRound14 V (Proc.devRef .tc main_v120) = (zRound14 F).1 := (pRound14 _).trans (by rw [zpRound13, zqRound13]; rfl)
theorem zqRound14 : VRound14 V (Proc.devRef .tc main_v126) = (zRound14 F).2 := (qRound14 _).trans (by rw [zpRound13, zqRound13]; rfl)
theorem argRound15 : VRound15 V (Proc.devRef .tc main_arg0) = V (Proc.devRef .tc main_arg0) := (keepArgRound15 _).trans (argRound14 V)
theorem lgRound15 : VRound15 V (Proc.devRef .tc main_v2) = logits (V (Proc.devRef .tc main_arg0)) := (keepLogRound15 _).trans (lgRound14 V)
theorem zpRound15 : VRound15 V (Proc.devRef .tc main_v127) = (zRound15 F).1 := (pRound15 _).trans (by rw [zpRound14, zqRound14]; rfl)
theorem zqRound15 : VRound15 V (Proc.devRef .tc main_v133) = (zRound15 F).2 := (qRound15 _).trans (by rw [zpRound14, zqRound14]; rfl)
theorem argRound16 : VRound16 V (Proc.devRef .tc main_arg0) = V (Proc.devRef .tc main_arg0) := (keepArgRound16 _).trans (argRound15 V)
theorem lgRound16 : VRound16 V (Proc.devRef .tc main_v2) = logits (V (Proc.devRef .tc main_arg0)) := (keepLogRound16 _).trans (lgRound15 V)
theorem zpRound16 : VRound16 V (Proc.devRef .tc main_v134) = (zRound16 F).1 := (pRound16 _).trans (by rw [zpRound15, zqRound15]; rfl)
theorem zqRound16 : VRound16 V (Proc.devRef .tc main_v140) = (zRound16 F).2 := (qRound16 _).trans (by rw [zpRound15, zqRound15]; rfl)
theorem argKey4 : VKey4 V (Proc.devRef .tc main_arg0) = V (Proc.devRef .tc main_arg0) := (keepArgKey4 _).trans (argRound16 V)
theorem lgKey4 : VKey4 V (Proc.devRef .tc main_v2) = logits (V (Proc.devRef .tc main_arg0)) := (keepLogKey4 _).trans (lgRound16 V)
theorem zpKey4 : VKey4 V (Proc.devRef .tc main_v142) = (zKey4 F).1 := (pKey4 _).trans (by rw [zpRound16]; rfl)
theorem zqKey4 : VKey4 V (Proc.devRef .tc main_v144) = (zKey4 F).2 := (qKey4 _).trans (by rw [zqRound16]; rfl)
theorem argRound17 : VRound17 V (Proc.devRef .tc main_arg0) = V (Proc.devRef .tc main_arg0) := (keepArgRound17 _).trans (argKey4 V)
theorem lgRound17 : VRound17 V (Proc.devRef .tc main_v2) = logits (V (Proc.devRef .tc main_arg0)) := (keepLogRound17 _).trans (lgKey4 V)
theorem zpRound17 : VRound17 V (Proc.devRef .tc main_v145) = (zRound17 F).1 := (pRound17 _).trans (by rw [zpKey4, zqKey4]; rfl)
theorem zqRound17 : VRound17 V (Proc.devRef .tc main_v151) = (zRound17 F).2 := (qRound17 _).trans (by rw [zpKey4, zqKey4]; rfl)
theorem argRound18 : VRound18 V (Proc.devRef .tc main_arg0) = V (Proc.devRef .tc main_arg0) := (keepArgRound18 _).trans (argRound17 V)
theorem lgRound18 : VRound18 V (Proc.devRef .tc main_v2) = logits (V (Proc.devRef .tc main_arg0)) := (keepLogRound18 _).trans (lgRound17 V)
theorem zpRound18 : VRound18 V (Proc.devRef .tc main_v152) = (zRound18 F).1 := (pRound18 _).trans (by rw [zpRound17, zqRound17]; rfl)
theorem zqRound18 : VRound18 V (Proc.devRef .tc main_v158) = (zRound18 F).2 := (qRound18 _).trans (by rw [zpRound17, zqRound17]; rfl)
theorem argRound19 : VRound19 V (Proc.devRef .tc main_arg0) = V (Proc.devRef .tc main_arg0) := (keepArgRound19 _).trans (argRound18 V)
theorem lgRound19 : VRound19 V (Proc.devRef .tc main_v2) = logits (V (Proc.devRef .tc main_arg0)) := (keepLogRound19 _).trans (lgRound18 V)
theorem zpRound19 : VRound19 V (Proc.devRef .tc main_v159) = (zRound19 F).1 := (pRound19 _).trans (by rw [zpRound18, zqRound18]; rfl)
theorem zqRound19 : VRound19 V (Proc.devRef .tc main_v165) = (zRound19 F).2 := (qRound19 _).trans (by rw [zpRound18, zqRound18]; rfl)
theorem argRound20 : VRound20 V (Proc.devRef .tc main_arg0) = V (Proc.devRef .tc main_arg0) := (keepArgRound20 _).trans (argRound19 V)
theorem lgRound20 : VRound20 V (Proc.devRef .tc main_v2) = logits (V (Proc.devRef .tc main_arg0)) := (keepLogRound20 _).trans (lgRound19 V)
theorem zpRound20 : VRound20 V (Proc.devRef .tc main_v166) = (zRound20 F).1 := (pRound20 _).trans (by rw [zpRound19, zqRound19]; rfl)
theorem zqRound20 : VRound20 V (Proc.devRef .tc main_v172) = (zRound20 F).2 := (qRound20 _).trans (by rw [zpRound19, zqRound19]; rfl)
theorem argKey5 : VKey5 V (Proc.devRef .tc main_arg0) = V (Proc.devRef .tc main_arg0) := (keepArgKey5 _).trans (argRound20 V)
theorem lgKey5 : VKey5 V (Proc.devRef .tc main_v2) = logits (V (Proc.devRef .tc main_arg0)) := (keepLogKey5 _).trans (lgRound20 V)
theorem zpKey5 : VKey5 V (Proc.devRef .tc main_v174) = (zKey5 F).1 := (pKey5 _).trans (by rw [zpRound20]; rfl)
theorem zqKey5 : VKey5 V (Proc.devRef .tc main_v176) = (zKey5 F).2 := (qKey5 _).trans (by rw [zqRound20]; rfl)
theorem argEnd : VEnd V (Proc.devRef .tc main_arg0) = V (Proc.devRef .tc main_arg0) := (keepArgEnd _).trans (argKey5 V)
theorem resultEnd : VEnd V (Proc.devRef .tc main_v198) = best (scores (uniformsR (zKey5 F).1 (zKey5 F).2) (logits (V (Proc.devRef .tc main_arg0)))) :=
  (resEnd _).trans (by rw [zpKey5, zqKey5, lgKey5])

theorem after_ops : after ops V = VEnd V := by
  simp only [ops, after_append]
  rfl

/-- THE RUN of the reference: it ends, the result at the arg-max of the scores, the argument unchanged, every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v198)
          = best (scores (uniformsR (zKey5 F).1 (zKey5 F).2) (logits (m ((c.tc : Thread nD τ).loc main_arg0))))
      ∧ r.2.mem ((c.tc : Thread nD τ).loc main_arg0) = m ((c.tc : Thread nD τ).loc main_arg0)) ∧ r.2.sem = fun _ => 0 :=
  (θ_run defs _ _).mono (fun r h => ⟨fun c => ⟨(h c main_v198).trans ((congrFun (after_ops (launchContents m c)) (Proc.devRef .tc main_v198)).trans (resultEnd (launchContents m c))),
      (h c main_arg0).trans ((congrFun (after_ops (launchContents m c)) (Proc.devRef .tc main_arg0)).trans (argEnd (launchContents m c)))⟩,
      sem_eq_zero_of_no_sems rfl r.2⟩)
    (run_seq scopedRefs_eq scopedSems_eq defs main (fun _ => ops) main_eq (fun _ => ops_sub) m ρ fun _ => List.forall_iff_forall_mem.mp ops_fresh)

end Cert.ReferenceIdeal.Hand
end
-- ==== Proof.Cipher.lean ====
/- The random words: what the kernel's cipher computes on a lane and what the reference's computes on an entry are one
   function of the counter, and the kernel's counter on a lane is the counter of the entry the lane stands for. -/
module

public import proofs.«01_k».proof.Proof.Output
public import proofs.«01_k».proof.Proof.RefRun

@[expose] public section

noncomputable section

namespace Cert.Draws

open Idealize.ShloMosaic

/-- A word rotated left by `r`. -/
def rotl (r : ℕ) (x : BitVec 32) : BitVec 32 := x <<< r ||| x >>> (32 - r)

/-- One round of the cipher on a pair of words. -/
def round (r : ℕ) (z : BitVec 32 × BitVec 32) : BitVec 32 × BitVec 32 := (z.1 + z.2, (z.1 + z.2) ^^^ rotl r z.2)

/-- A key injection. -/
def key (a b : BitVec 32) (z : BitVec 32 × BitVec 32) : BitVec 32 × BitVec 32 := (z.1 + a, z.2 + b)

/-- Four rounds with the first rotations, and four with the second. -/
def groupA (z : BitVec 32 × BitVec 32) : BitVec 32 × BitVec 32 := round 6 (round 26 (round 15 (round 13 z)))
def groupB (z : BitVec 32 × BitVec 32) : BitVec 32 × BitVec 32 := round 24 (round 16 (round 29 (round 17 z)))

/-- The two output words for the counter `n` (the key already added to it). -/
def words (n : BitVec 32) : BitVec 32 × BitVec 32 :=
  key 466689008#32 5#32 (groupA (key 42#32 466689012#32 (groupB (key 0#32 45#32 (groupA (key 466689008#32 2#32
    (groupB (key 42#32 466689009#32 (groupA (0#32, n))))))))))

/-- The random word of a counter. -/
def bits (n : BitVec 32) : BitVec 32 := (words n).1 ^^^ (words n).2

/-- A shift by a literal inside the word is the plain shift, on any unit. -/
theorem shl_eq (u : ArithUnit) (x y : BitVec 32) (k : ℕ) (hk : y.toNat = k) (h : k < 32) : IntOp.shli u x y = x <<< k := by
  unfold IntOp.shli
  rw [if_pos (by omega)]
  show x <<< y.toNat = _
  rw [hk]

theorem shr_eq (u : ArithUnit) (x y : BitVec 32) (k : ℕ) (hk : y.toNat = k) (h : k < 32) : IntOp.shrui u x y = x >>> k := by
  unfold IntOp.shrui
  rw [if_pos (by omega)]
  show x >>> y.toNat = _
  rw [hk]

end Cert.Draws

namespace Cert.KernelIdeal.Hand

open Cert.KernelIdeal Cert.KernelIdeal.Gen Idealize.ShloMosaic Cert.Draws

local notation "Words" => IVec S8x6144 32

/-- A pair of vectors read at one lane. -/
def onLane (y : S8x6144.Idx) (z : Words × Words) : BitVec 32 × BitVec 32 := (z.1 y, z.2 y)

theorem rotV_lane (r l : BitVec 32) (k : ℕ) (h0 : 0 < k) (hk : k < 32) (hr : r.toNat = k) (hl : l.toNat = 32 - k) (x : Words) (y : S8x6144.Idx) :
    rotV r l x y = rotl k (x y) := by
  show IntOp.shli .vector (x y) r ||| IntOp.shrui .vector (x y) l = _
  rw [shl_eq _ _ r k hr hk, shr_eq _ _ l (32 - k) hl (by omega)]
  rfl

theorem roundV_lane (r l : BitVec 32) (k : ℕ) (h0 : 0 < k) (hk : k < 32) (hr : r.toNat = k) (hl : l.toNat = 32 - k) (z : Words × Words) (y : S8x6144.Idx) :
    onLane y (roundV r l z) = round k (onLane y z) := by
  refine Prod.ext rfl ?_
  show rotV r l z.2 y ^^^ (z.1 y + z.2 y) = (z.1 y + z.2 y) ^^^ rotl k (z.2 y)
  rw [rotV_lane r l k h0 hk hr hl, BitVec.xor_comm]

theorem keyV_lane (a b : BitVec 32) (z : Words × Words) (y : S8x6144.Idx) : onLane y (keyV a b z) = key a b (onLane y z) := rfl

theorem fourA_lane (z : Words × Words) (y : S8x6144.Idx) : onLane y (fourA z) = groupA (onLane y z) := by
  unfold fourA groupA
  rw [roundV_lane 6#32 26#32 6 (by decide) (by decide) rfl rfl, roundV_lane 26#32 6#32 26 (by decide) (by decide) rfl rfl,
    roundV_lane 15#32 17#32 15 (by decide) (by decide) rfl rfl, roundV_lane 13#32 19#32 13 (by decide) (by decide) rfl rfl]

theorem fourB_lane (z : Words × Words) (y : S8x6144.Idx) : onLane y (fourB z) = groupB (onLane y z) := by
  unfold fourB groupB
  rw [roundV_lane 24#32 8#32 24 (by decide) (by decide) rfl rfl, roundV_lane 16#32 16#32 16 (by decide) (by decide) rfl rfl,
    roundV_lane 29#32 3#32 29 (by decide) (by decide) rfl rfl, roundV_lane 17#32 15#32 17 (by decide) (by decide) rfl rfl]

/-- The simplified first four rounds. -/
theorem first_lane (n : Words) (y : S8x6144.Idx) :
    onLane y (roundV 6#32 26#32 (roundV 26#32 6#32 (roundV 15#32 17#32 (n, xori (rotV 13#32 19#32 n) n)))) = groupA (0#32, n y) := by
  have e : onLane y (n, xori (rotV 13#32 19#32 n) n) = round 13 (0#32, n y) := by
    refine Prod.ext ?_ ?_
    · show n y = 0#32 + n y
      rw [BitVec.zero_add]
    · show rotV 13#32 19#32 n y ^^^ n y = (0#32 + n y) ^^^ rotl 13 (n y)
      rw [rotV_lane 13#32 19#32 13 (by decide) (by decide) rfl rfl, BitVec.zero_add, BitVec.xor_comm]
  unfold groupA
  rw [roundV_lane 6#32 26#32 6 (by decide) (by decide) rfl rfl, roundV_lane 26#32 6#32 26 (by decide) (by decide) rfl rfl,
    roundV_lane 15#32 17#32 15 (by decide) (by decide) rfl rfl, e]

/-- The third key injection, whose first word the kernel leaves alone. -/
def key3V (z : Words × Words) : Words × Words := (z.1, addi z.2 (broadcast S8x6144 45#32))

theorem key3V_lane (z : Words × Words) (y : S8x6144.Idx) : onLane y (key3V z) = key 0#32 45#32 (onLane y z) :=
  Prod.ext (BitVec.add_zero (z.1 y)).symm rfl

/-- The first four rounds as the kernel writes them. -/
def firstV (n : Words) : Words × Words := roundV 6#32 26#32 (roundV 26#32 6#32 (roundV 15#32 17#32 (n, xori (rotV 13#32 19#32 n) n)))

/-- The two output words on every lane. -/
def wordsV (n : Words) : Words × Words :=
  keyV 466689008#32 5#32 (fourA (keyV 42#32 466689012#32 (fourB (key3V (fourA (keyV 466689008#32 2#32 (fourB (keyV 42#32 466689009#32 (firstV n)))))))))

theorem bitsV_eq (n : Words) : bitsV n = xori (wordsV n).1 (wordsV n).2 := by
  simp only [bitsV, wordsV, firstV, key3V, keyV]

theorem wordsV_lane (n : Words) (y : S8x6144.Idx) : onLane y (wordsV n) = words (n y) := by
  unfold wordsV words firstV
  rw [keyV_lane, fourA_lane, keyV_lane, fourB_lane, key3V_lane, fourA_lane, keyV_lane, fourB_lane, keyV_lane, first_lane]

/-- The kernel's random word on a lane is the random word of the lane's counter. -/
theorem bitsV_lane (n : Words) (y : S8x6144.Idx) : bitsV n y = bits (n y) := by
  rw [bitsV_eq, bits, ← wordsV_lane]
  generalize wordsV n = z
  rfl

/-- A lane's position in its row, as a natural number. -/
theorem pos_lane (i : grid0.Coords) (y : S8x6144.Idx) :
    k0_pay9 i y = BitVec.ofNat 32 ((y 0).val * 125000 + (i 1).val * 6144 + (y 1).val) := by
  have h1 : (i 1).val < 21 := (i 1).isLt
  have h2 : (y 1).val < 6144 := (y 1).isLt
  have h3 : (y 0).val < 8 := (y 0).isLt
  show iota .tc S8x6144 32 [0] iota_S8x6144_d0_w32 y * 125000#32 + k0_pay8 i y = _
  have e : k0_pay8 i y = BitVec.ofNat 32 ((i 1).val * 6144 + (y 1).val) := by
    apply BitVec.eq_of_toNat_eq
    rw [col_lt, BitVec.toNat_ofNat, Nat.mod_eq_of_lt (by omega)]
  rw [iota_single_apply, e]
  show BitVec.ofNat 32 (y 0).val * BitVec.ofNat 32 125000 + _ = _
  rw [← BitVec.ofNat_mul, ← BitVec.ofNat_add, Nat.add_assoc]

/-- A lane's counter for sample `s`. -/
theorem ctr_lane (i : grid0.Coords) (s : Fin 5) (y : S8x6144.Idx) :
    ctrV i (BitVec.ofNat 32 s.val) y
      = BitVec.ofNat 32 ((i 0).val * 5000000 + s.val * 1000000 + ((y 0).val * 125000 + (i 1).val * 6144 + (y 1).val) + 42) := by
  have h0 : (i 0).val < 32 := (i 0).isLt
  have h1 : (i 1).val < 21 := (i 1).isLt
  have h2 : (y 1).val < 6144 := (y 1).isLt
  have h3 : (y 0).val < 8 := (y 0).isLt
  have h4 := s.isLt
  show k0_pay9 i y + ((BitVec.ofNat 32 (i 0).val * 5#32 + BitVec.ofNat 32 s.val) * 1000000#32 + 42#32) = _
  rw [pos_lane, ← BitVec.ofNat_mul, ← BitVec.ofNat_add, ← BitVec.ofNat_mul, ← BitVec.ofNat_add, ← BitVec.ofNat_add]
  refine congrArg (BitVec.ofNat 32) ?_
  omega

end Cert.KernelIdeal.Hand

namespace Cert.ReferenceIdeal.Hand

open Cert.ReferenceIdeal Cert.ReferenceIdeal.Gen Idealize.ShloMosaic Cert.Draws

variable {F : FTy → Type} [FloatOps F]

/-- A pair of arrays read at one entry. -/
def onEntry (j : S32x5x1000000.Idx) (z : Words F × Words F) : BitVec 32 × BitVec 32 := (z.1 j, z.2 j)

theorem stepR_entry (r l : BitVec 32) (k : ℕ) (h0 : 0 < k) (hk : k < 32) (hr : r.toNat = k) (hl : l.toNat = 32 - k) (z : Words F × Words F)
    (j : S32x5x1000000.Idx) : onEntry j (stepR r l z) = round k (onEntry j z) := by
  refine Prod.ext rfl ?_
  show (z.1 j + z.2 j) ^^^ (IntOp.shli .host (z.2 j) r ||| IntOp.shrui .host (z.2 j) l) = _
  rw [shl_eq _ _ r k hr hk, shr_eq _ _ l (32 - k) hl (by omega)]
  rfl

theorem injR_entry (a b : BitVec 32) (z : Words F × Words F) (j : S32x5x1000000.Idx) : onEntry j (injR a b z) = key a b (onEntry j z) := rfl

/-- The position of an entry. -/
theorem positions_entry (j : S32x5x1000000.Idx) :
    positions F j = BitVec.ofNat 32 ((j 0).val * 5000000 + (j 1).val * 1000000 + (j 2).val) := by
  have h0 : (j 0).val < 32 := (j 0).isLt
  have h1 : (j 1).val < 5 := (j 1).isLt
  have h2 : (j 2).val < 1000000 := (j 2).isLt
  show BitVec.ofNat 32 (j 0).val * 5000000#32 + BitVec.ofNat 32 (j 1).val * 1000000#32 + BitVec.ofNat 32 (j 2).val = _
  rw [← BitVec.ofNat_mul, ← BitVec.ofNat_mul, ← BitVec.ofNat_add, ← BitVec.ofNat_add]

theorem zStart_entry (j : S32x5x1000000.Idx) :
    onEntry j (zStart F) = (0#32, BitVec.ofNat 32 ((j 0).val * 5000000 + (j 1).val * 1000000 + (j 2).val + 42)) := by
  refine Prod.ext ?_ ?_
  · show (0#32 : BitVec 32) + 0#32 = 0#32
    rfl
  · show positions F j + 42#32 = _
    rw [positions_entry]
    exact (BitVec.ofNat_add _ _).symm

/-- The reference's random words at an entry are those of the entry's counter. -/
theorem words_entry (j : S32x5x1000000.Idx) :
    onEntry j (zKey5 F) = words (BitVec.ofNat 32 ((j 0).val * 5000000 + (j 1).val * 1000000 + (j 2).val + 42)) := by
  have s13 := stepR_entry (F := F) 13#32 19#32 13 (by decide) (by decide) rfl rfl
  have s15 := stepR_entry (F := F) 15#32 17#32 15 (by decide) (by decide) rfl rfl
  have s26 := stepR_entry (F := F) 26#32 6#32 26 (by decide) (by decide) rfl rfl
  have s6 := stepR_entry (F := F) 6#32 26#32 6 (by decide) (by decide) rfl rfl
  have s17 := stepR_entry (F := F) 17#32 15#32 17 (by decide) (by decide) rfl rfl
  have s29 := stepR_entry (F := F) 29#32 3#32 29 (by decide) (by decide) rfl rfl
  have s16 := stepR_entry (F := F) 16#32 16#32 16 (by decide) (by decide) rfl rfl
  have s24 := stepR_entry (F := F) 24#32 8#32 24 (by decide) (by decide) rfl rfl
  rw [zKey5, injR_entry, zRound20, s6, zRound19, s26, zRound18, s15, zRound17, s13, zKey4, injR_entry, zRound16, s24, zRound15, s16, zRound14,
    s29, zRound13, s17, zKey3, injR_entry, zRound12, s6, zRound11, s26, zRound10, s15, zRound9, s13, zKey2, injR_entry, zRound8, s24,
    zRound7, s16, zRound6, s29, zRound5, s17, zKey1, injR_entry, zRound4, s6, zRound3, s26, zRound2, s15, zRound1, s13, zStart_entry]
  unfold words groupA groupB
  rfl

end Cert.ReferenceIdeal.Hand
end
-- ==== Proof.Noise.lean ====
/- The noise a random word stands for, on the extended reals: a finite number of bounded size. The score of a weight is its
   shifted logarithm less the noise; with a weight of at least zero it lies above everything the kernel fills in. -/
module

public import proofs.«01_k».proof.Proof.Cipher
public import Idealize.ShloMosaic.Lib.IdealHost

@[expose] public section

noncomputable section

namespace Cert.Draws

open Idealize.ShloMosaic

/-- A normal 32-bit pattern, by its sign, exponent and fraction. -/
theorem f32_value (w : BitVec 32) (s E k : ℕ) (hs : s < 2) (hE : 0 < E) (hE' : E < 255) (hk : k < 8388608)
    (h : w.toNat = s * 2147483648 + E * 8388608 + k) :
    Ideal.ofBits .f32 w = (((if s = 1 then -1 else 1) * ((2 ^ 23 + k : ℕ) : ℝ) * (2 : ℝ) ^ ((E : ℤ) - 150) : ℝ) : EReal) := by
  have e1 : (w.extractLsb' 23 8).toNat = E := by
    rw [BitVec.extractLsb'_toNat, Nat.shiftRight_eq_div_pow, h]; omega
  have e2 : (w.extractLsb' 0 23).toNat = k := by
    rw [BitVec.extractLsb'_toNat, Nat.shiftRight_eq_div_pow, h]; omega
  have e3 : (w.extractLsb' (8 + 23) 1).toNat = s := by
    rw [BitVec.extractLsb'_toNat, Nat.shiftRight_eq_div_pow, h]; omega
  have e4 : (w.extractLsb' (8 + 23) 1 == 1#1) = decide (s = 1) := by
    by_cases h1 : s = 1
    · rw [decide_eq_true h1, beq_iff_eq]
      exact BitVec.eq_of_toNat_eq (e3.trans h1)
    · rw [decide_eq_false h1, beq_eq_false_iff_ne]
      intro h2
      rw [h2] at e3
      exact h1 e3.symm
  show Ideal.ieee 8 23 w = _
  unfold Ideal.ieee
  simp only [e1, e2, e4]
  rw [if_neg (by omega), if_neg (by omega)]
  norm_num
  congr 2
  by_cases h1 : s = 1 <;> simp [h1]
  all_goals ring_nf

/-- The constants of the two programs. -/
theorem one_value : Ideal.ofBits .f32 0x3F800000#32 = ((1 : ℝ) : EReal) := by
  rw [f32_value _ 0 127 0 (by decide) (by decide) (by decide) (by decide) rfl]
  norm_num
theorem tiny_value : Ideal.ofBits .f32 0x00800000#32 = (((2 : ℝ) ^ (-126 : ℤ) : ℝ) : EReal) := by
  rw [f32_value _ 0 1 0 (by decide) (by decide) (by decide) (by decide) rfl]
  norm_num
theorem eps_value : Ideal.ofBits .f32 0x0DA24260#32 = (((10633824 : ℝ) * (2 : ℝ) ^ (-123 : ℤ) : ℝ) : EReal) := by
  rw [f32_value _ 0 27 2245216 (by decide) (by decide) (by decide) (by decide) rfl]
  norm_num
theorem mask_value : Ideal.ofBits .f32 0xFF61B1E6#32 = ((-(14791142 : ℝ) * 2 ^ 104 : ℝ) : EReal) := by
  rw [f32_value _ 1 254 6402534 (by decide) (by decide) (by decide) (by decide) rfl]
  norm_num
theorem fill_value : Ideal.ofBits .f32 0xFF6937D4#32 = ((-(15284180 : ℝ) * 2 ^ 104 : ℝ) : EReal) := by
  rw [f32_value _ 1 254 6895572 (by decide) (by decide) (by decide) (by decide) rfl]
  norm_num

/-- The fraction in [0, 1) a random word stands for. -/
def frac (b : BitVec 32) : ℝ := ((b >>> 9).toNat : ℝ) / 8388608

theorem frac_nonneg (b : BitVec 32) : 0 ≤ frac b := by unfold frac; positivity

theorem frac_le (b : BitVec 32) : frac b ≤ 1 - 1 / 8388608 := by
  have h : (b >>> 9).toNat < 8388608 := by
    rw [BitVec.toNat_ushiftRight, Nat.shiftRight_eq_div_pow]
    have := b.isLt
    omega
  have h' : ((b >>> 9).toNat : ℝ) + 1 ≤ 8388608 := by exact_mod_cast h
  unfold frac
  rw [div_le_iff₀ (by norm_num)]
  linarith

/-- The pattern with the random bits as its fraction is one more than the fraction. -/
theorem bits_value (b : BitVec 32) : Ideal.ofBits .f32 (b >>> 9 ||| 1065353216#32) = ((1 + frac b : ℝ) : EReal) := by
  have h : (b >>> 9).toNat < 8388608 := by
    rw [BitVec.toNat_ushiftRight, Nat.shiftRight_eq_div_pow]
    have := b.isLt
    omega
  rw [f32_value _ 0 127 (b >>> 9).toNat (by decide) (by decide) (by decide) h]
  · unfold frac
    congr 1
    push_cast
    norm_num
    ring
  · rw [BitVec.toNat_or, Nat.or_comm]
    have e : (1065353216#32 : BitVec 32).toNat = 2 ^ 23 * 127 := rfl
    rw [e, ← Nat.two_pow_add_eq_or_of_lt h]

/-- The uniform variable in (0, 1) a random word stands for. -/
def unif (b : BitVec 32) : ℝ := frac b + (2 : ℝ) ^ (-126 : ℤ)

theorem unif_pos (b : BitVec 32) : (2 : ℝ) ^ (-126 : ℤ) ≤ unif b := by
  have := frac_nonneg b
  unfold unif; linarith

theorem unif_le (b : BitVec 32) : unif b ≤ 1 - 1 / 16777216 := by
  have := frac_le b
  have h : (2 : ℝ) ^ (-126 : ℤ) ≤ 1 / 16777216 := by norm_num
  unfold unif; linarith

/-- The noise of a random word: the logarithm of an exponential variable. -/
def noise (b : BitVec 32) : ℝ := Real.log (-Real.log (unif b))

theorem expo_ge (b : BitVec 32) : 1 / 16777216 ≤ -Real.log (unif b) := by
  have h0 : 0 < unif b := lt_of_lt_of_le (by positivity) (unif_pos b)
  have := Real.log_le_sub_one_of_pos h0
  have := unif_le b
  linarith

theorem expo_le (b : BitVec 32) : -Real.log (unif b) ≤ 2 ^ 126 := by
  have h0 : 0 < unif b := lt_of_lt_of_le (by positivity) (unif_pos b)
  have h1 := Real.one_sub_inv_le_log_of_pos h0
  have h2 : (unif b)⁻¹ ≤ ((2 : ℝ) ^ (-126 : ℤ))⁻¹ := inv_anti₀ (by positivity) (unif_pos b)
  have h3 : ((2 : ℝ) ^ (-126 : ℤ))⁻¹ = 2 ^ 126 := by norm_num
  linarith

theorem noise_ge (b : BitVec 32) : -16777216 ≤ noise b := by
  have h0 := expo_ge b
  have h1 := Real.one_sub_inv_le_log_of_pos (lt_of_lt_of_le (by norm_num) h0)
  have h2 : (-Real.log (unif b))⁻¹ ≤ (1 / 16777216 : ℝ)⁻¹ := inv_anti₀ (by norm_num) h0
  have h3 : (1 / 16777216 : ℝ)⁻¹ = 16777216 := by norm_num
  unfold noise; linarith

theorem noise_le (b : BitVec 32) : noise b ≤ 2 ^ 126 := by
  have h0 := expo_ge b
  have h1 := Real.log_le_sub_one_of_pos (lt_of_lt_of_le (by norm_num) h0)
  have h2 := expo_le b
  unfold noise; linarith

theorem log_pos (r : ℝ) (h : 0 < r) : Ideal.log (r : EReal) = (Real.log r : EReal) := by
  show (if r ≤ 0 then (⊥ : EReal) else (Real.log r : EReal)) = _
  rw [if_neg (not_le.2 h)]

/-- The kernel's noise of a random word, -/
theorem noise_kernel (b : BitVec 32) :
    Ideal.log (Ideal.ofBits .f32 0x00000000#32 - Ideal.log (Ideal.ofBits .f32 (b >>> 9 ||| 1065353216#32) - Ideal.ofBits .f32 0x3F800000#32
      + Ideal.ofBits .f32 0x00800000#32)) = (noise b : EReal) := by
  have h0 : 0 < unif b := lt_of_lt_of_le (by positivity) (unif_pos b)
  have e : (((1 + frac b : ℝ) : EReal) - ((1 : ℝ) : EReal) + (((2 : ℝ) ^ (-126 : ℤ) : ℝ) : EReal)) = (unif b : EReal) := by
    rw [← EReal.coe_sub, ← EReal.coe_add]
    unfold unif
    congr 1
    ring
  rw [bits_value, one_value, tiny_value, e, log_pos _ h0, Ideal.ofBits_zero_f32, ← EReal.coe_zero, ← EReal.coe_sub, zero_sub,
    log_pos _ (lt_of_lt_of_le (by norm_num) (expo_ge b))]
  rfl

/-- and the reference's, negated. -/
theorem noise_reference (b : BitVec 32) :
    -Ideal.log (-Ideal.log (max (Ideal.ofBits .f32 0x00800000#32) ((Ideal.ofBits .f32 (b >>> 9 ||| 1065353216#32) - Ideal.ofBits .f32 0x3F800000#32)
      * Ideal.ofBits .f32 0x3F800000#32 + Ideal.ofBits .f32 0x00800000#32))) = -(noise b : EReal) := by
  have h0 : 0 < unif b := lt_of_lt_of_le (by positivity) (unif_pos b)
  have e : ((((1 + frac b : ℝ) : EReal) - ((1 : ℝ) : EReal)) * ((1 : ℝ) : EReal) + (((2 : ℝ) ^ (-126 : ℤ) : ℝ) : EReal)) = (unif b : EReal) := by
    rw [← EReal.coe_sub, ← EReal.coe_mul, ← EReal.coe_add]
    unfold unif
    congr 1
    ring
  rw [bits_value, one_value, tiny_value, e, max_eq_right (EReal.coe_le_coe_iff.2 (unif_pos b)), log_pos _ h0, ← EReal.coe_neg,
    log_pos _ (lt_of_lt_of_le (by norm_num) (expo_ge b))]
  rfl

/-- The shifted logarithm of a weight. -/
def logit (x : EReal) : EReal := Ideal.log (x + Ideal.ofBits .f32 0x0DA24260#32)

/-- The score of a weight under the noise of a random word. -/
def score (x : EReal) (b : BitVec 32) : EReal := logit x - (noise b : EReal)

/-- The bound below which everything the kernel fills in lies, and above which every score does. -/
def low : EReal := ((-(2 : ℝ) ^ 127 : ℝ) : EReal)

theorem logit_ge (x : EReal) (h : 0 ≤ x) : ((-(2 : ℝ) ^ 100 : ℝ) : EReal) ≤ logit x := by
  unfold logit
  rw [eps_value]
  induction x using EReal.rec with
  | bot => exact absurd h (by simp)
  | top =>
    rw [EReal.top_add_coe]
    exact le_top
  | coe r =>
    have hr : 0 ≤ r := EReal.coe_nonneg.1 h
    have he : (2 : ℝ) ^ (-100 : ℤ) ≤ r + (10633824 : ℝ) * (2 : ℝ) ^ (-123 : ℤ) := by
      have : (2 : ℝ) ^ (-100 : ℤ) ≤ (10633824 : ℝ) * (2 : ℝ) ^ (-123 : ℤ) := by norm_num
      linarith
    have hp : 0 < r + (10633824 : ℝ) * (2 : ℝ) ^ (-123 : ℤ) := lt_of_lt_of_le (by positivity) he
    rw [← EReal.coe_add, log_pos _ hp, EReal.coe_le_coe_iff]
    have h1 := Real.one_sub_inv_le_log_of_pos hp
    have h2 : (r + (10633824 : ℝ) * (2 : ℝ) ^ (-123 : ℤ))⁻¹ ≤ ((2 : ℝ) ^ (-100 : ℤ))⁻¹ := inv_anti₀ (by positivity) he
    have h3 : ((2 : ℝ) ^ (-100 : ℤ))⁻¹ = 2 ^ 100 := by norm_num
    rw [h3] at h2
    generalize (r + (10633824 : ℝ) * (2 : ℝ) ^ (-123 : ℤ)) = q at *
    linarith

/-- A weight of at least zero scores at least the bound; -/
theorem low_le_score (x : EReal) (h : 0 ≤ x) (b : BitVec 32) : low ≤ score x b := by
  have h1 := logit_ge x h
  have h2 : ((-(2 : ℝ) ^ 100 - noise b : ℝ) : EReal) ≤ score x b := by
    rw [EReal.coe_sub]
    exact EReal.sub_le_sub h1 le_rfl
  refine le_trans ?_ h2
  unfold low
  rw [EReal.coe_le_coe_iff]
  have := noise_le b
  norm_num at this ⊢
  linarith

/-- the fill of the maxima lies below the bound, -/
theorem fill_lt_low : Ideal.ofBits .f32 0xFF6937D4#32 < low := by
  rw [fill_value, low, EReal.coe_lt_coe_iff]
  norm_num

/-- and so does the fill of the logits, whatever the noise. -/
theorem mask_lt_low (b : BitVec 32) : Ideal.ofBits .f32 0xFF61B1E6#32 - (noise b : EReal) < low := by
  rw [mask_value, low, ← EReal.coe_sub, EReal.coe_lt_coe_iff]
  have := noise_ge b
  norm_num at this ⊢
  linarith

end Cert.Draws
end
-- ==== Proof.Best.lean ====
/- The position of the best score: the least one of those at the maximum. There is one at most. -/
module

public import proofs.«01_k».proof.Proof.Noise

@[expose] public section

namespace Cert.Draws

/-- `J` is the position of the largest of the scores `g`, the least position where they are equal. -/
def IsBest {n : ℕ} (g : Fin n → EReal) (J : Fin n) : Prop := ∀ j, g j ≤ g J ∧ (g j = g J → J ≤ j)

theorem IsBest.unique {n : ℕ} {g : Fin n → EReal} {J K : Fin n} (hJ : IsBest g J) (hK : IsBest g K) : J = K := by
  have e : g J = g K := le_antisymm (hK J).1 (hJ K).1
  exact le_antisymm ((hJ K).2 e.symm) ((hK J).2 e)

theorem exists_best {n : ℕ} (hn : 0 < n) (g : Fin n → EReal) : ∃ J, IsBest g J := by
  classical
  obtain ⟨M, _, hM⟩ := Finset.exists_max_image Finset.univ g ⟨⟨0, hn⟩, Finset.mem_univ _⟩
  obtain ⟨J, hJ, hmin⟩ := Finset.exists_min_image (Finset.univ.filter fun j => g j = g M) (fun j => j)
    ⟨M, Finset.mem_filter.2 ⟨Finset.mem_univ _, rfl⟩⟩
  have hJM : g J = g M := (Finset.mem_filter.1 hJ).2
  exact ⟨J, fun j => ⟨(hM j (Finset.mem_univ _)).trans hJM.ge, fun e => hmin j (Finset.mem_filter.2 ⟨Finset.mem_univ _, e.trans hJM⟩)⟩⟩

/-- A position's word, read signed. -/
theorem toInt_pos {j : ℕ} (h : j < 1000000) : (BitVec.ofNat 32 j).toInt = (j : ℤ) := by
  have e : (BitVec.ofNat 32 j).toNat = j := by
    rw [BitVec.toNat_ofNat]; exact Nat.mod_eq_of_lt (by omega)
  rw [BitVec.toInt_eq_toNat_of_lt (by rw [e]; omega), e]

end Cert.Draws
-- ==== Proof.Pick.lean ====
/- What the kernel's last step of a row reports for a sample, from the lanes' maxima and positions, on the extended reals: a
   lane at the maximum with the least position of those. -/
module

public import proofs.«01_k».proof.Proof.Best

@[expose] public section

noncomputable section

namespace Cert.KernelIdeal.Hand

open Cert.KernelIdeal Cert.KernelIdeal.Gen Idealize.ShloMosaic

/-- The running signed minimum is at most its start and every operand, and is one of them. -/
theorem fold_min {ι : Type} (S : Finset ι) (b : BitVec 32) (f : ι → BitVec 32) :
    ((S.fold IntOp.minsi b f).toInt ≤ b.toInt ∧ ∀ x ∈ S, (S.fold IntOp.minsi b f).toInt ≤ (f x).toInt)
      ∧ (S.fold IntOp.minsi b f = b ∨ ∃ x ∈ S, S.fold IntOp.minsi b f = f x) := by
  classical
  induction S using Finset.induction_on with
  | empty => exact ⟨⟨le_rfl, fun x hx => absurd hx (Finset.notMem_empty x)⟩, Or.inl rfl⟩
  | insert a S ha ih =>
    rw [Finset.fold_insert ha]
    generalize S.fold IntOp.minsi b f = r at ih
    obtain ⟨⟨h1, h2⟩, h3⟩ := ih
    have hm : (IntOp.minsi (f a) r = f a ∧ (f a).toInt ≤ r.toInt) ∨ (IntOp.minsi (f a) r = r ∧ r.toInt ≤ (f a).toInt) := by
      unfold IntOp.minsi
      split
      · rename_i h
        simp only [BitVec.slt, BitVec.sle, decide_eq_true_eq] at h
        left; exact ⟨rfl, by omega⟩
      · rename_i h
        simp only [BitVec.slt, BitVec.sle, decide_eq_true_eq] at h
        right; exact ⟨rfl, by omega⟩
    rcases hm with ⟨e, hle⟩ | ⟨e, hle⟩
    · rw [e]
      refine ⟨⟨hle.trans h1, fun x hx => ?_⟩, Or.inr ⟨a, Finset.mem_insert_self a S, rfl⟩⟩
      rcases Finset.mem_insert.1 hx with rfl | hx
      · exact le_rfl
      · exact hle.trans (h2 x hx)
    · rw [e]
      refine ⟨⟨h1, fun x hx => ?_⟩, h3.imp id fun ⟨x, hx, e⟩ => ⟨x, Finset.mem_insert_of_mem hx, e⟩⟩
      rcases Finset.mem_insert.1 hx with rfl | hx
      · exact hle
      · exact h2 x hx

theorem one_index (i j : S1.Idx) : i = j := by
  funext a
  refine Fin.cases ?_ (fun a => a.elim0) a
  exact Subsingleton.elim (α := Fin 1) _ _

/-- A slice read through the casts the kernel puts around it. -/
theorem cast_out {α : Type} (u : S8x6144.Idx → α) (z : S1x8x6144.Idx) : shapeCast S1x8x6144 u shapeCasts_S8x6144_S1x8x6144 z = u (tail1 z) :=
  shapeCast_addUnit_apply ![8, 6144] _ _ z

theorem cast_in {α : Type} (v : S1x8x6144.Idx → α) (z : S1x8x6144.Idx) : shapeCast S8x6144 v shapeCasts_S1x8x6144_S8x6144 (tail1 z) = v z :=
  (shapeCast_dropUnit_apply ![8, 6144] v _ (tail1 z)).trans (congrArg v (cons_tail1 z))

/-- The one entry of a reduction to one entry, as the kernel extracts it. -/
theorem extract_one {α : Type} (u : S1.Idx → α) (a : α) (hu : ∀ j, u j = a) :
    extractAt ![0, 0, 0] (shapeCast S1x1x1 u shapeCasts_S1_S1x1x1) inpos_S1x1x1_p0_0_0 = a := hu _

/-- The maximum over all lanes. -/
theorem lanes_max (v : S1x8x6144.Idx → EReal) (z₀ : S1x8x6144.Idx) (hmax : ∀ z, v z ≤ v z₀) (j : S1.Idx) :
    multiReduction (F := Ideal) (φ := .f32) .maximumf [1, 2] S1
      (shapeCast S1x8x6144 (shapeCast S8x6144 v shapeCasts_S1x8x6144_S8x6144) shapeCasts_S8x6144_S1x8x6144) 0xFF800000#32 reduces_S1x8x6144_S1 (.inl rfl) rfl j
      = v z₀ := by
  have e : shapeCast S1x8x6144 (shapeCast S8x6144 v shapeCasts_S1x8x6144_S8x6144) shapeCasts_S8x6144_S1x8x6144 = v := by
    funext z
    rw [cast_out, cast_in]
  rw [e]
  refine (multiReduction_maximumf_eq_fold (F := Ideal) (φ := .f32) v _ reduces_S1x8x6144_S1 (.inl rfl) rfl j).trans ?_
  show (Finset.univ.filter fun i => reduces_S1x8x6144_S1.drop i = j).fold max _ v = _
  refine le_antisymm ((Finset.fold_max_le _).2 ⟨?_, fun z _ => hmax z⟩) ((Finset.le_fold_max _).2 (Or.inr ⟨z₀, ?_, le_rfl⟩))
  · have hb : FloatOps.ofBits (F := Ideal) .f32 0xFF800000#32 = ⊥ := by
      show Ideal.ieee 8 23 0xFF800000#32 = ⊥
      simp [Ideal.ieee]
    exact (le_of_eq hb).trans bot_le
  · exact Finset.mem_filter.2 ⟨Finset.mem_univ _, one_index _ _⟩

/-- THE REPORT: if no lane exceeds lane `z₀` and every lane equal to it holds no smaller position, the report is its position. -/
theorem pick_eq (v : S1x8x6144.Idx → EReal) (w : S1x8x6144.Idx → BitVec 32) (z₀ : S1x8x6144.Idx) (hmax : ∀ z, v z ≤ v z₀)
    (hmin : ∀ z, v z = v z₀ → (w z₀).toInt ≤ (w z).toInt) : pick (F := Ideal) v w = w z₀ := by
  have hsel : ∀ z : S1x8x6144.Idx, shapeCast S1x8x6144 (select (cmpf (F := Ideal) (φ := .f32) .oeq (shapeCast S8x6144 v shapeCasts_S1x8x6144_S8x6144)
        (broadcast S8x6144 (v z₀))) (shapeCast S8x6144 w shapeCasts_S1x8x6144_S8x6144) (broadcast S8x6144 2147483647#32)) shapeCasts_S8x6144_S1x8x6144 z
      = if v z = v z₀ then w z else 2147483647#32 := by
    intro z
    rw [cast_out]
    show Scalar.select (Ideal.cmp .oeq (shapeCast S8x6144 v shapeCasts_S1x8x6144_S8x6144 (tail1 z)) (v z₀)) (shapeCast S8x6144 w shapeCasts_S1x8x6144_S8x6144 (tail1 z)) _ = _
    rw [cast_in, cast_in]
    unfold Scalar.select
    by_cases h : v z = v z₀
    · rw [if_pos h]
      refine if_pos ?_
      show BitVec.ofBool (decide (v z = v z₀)) = 1#1
      rw [decide_eq_true h]; rfl
    · rw [if_neg h]
      refine if_neg ?_
      show ¬ BitVec.ofBool (decide (v z = v z₀)) = 1#1
      rw [decide_eq_false h]; decide
  have hred : ∀ j : S1.Idx, multiReductionI .minsi [1, 2] S1 (fun z : S1x8x6144.Idx => if v z = v z₀ then w z else 2147483647#32) 2147483647#32 reduces_S1x8x6144_S1 rfl j
      = w z₀ := by
    intro j
    refine (multiReductionI_eq_fold .minsi _ _ reduces_S1x8x6144_S1 rfl j).trans ?_
    show (Finset.univ.filter fun i => reduces_S1x8x6144_S1.drop i = j).fold IntOp.minsi 2147483647#32 _ = _
    obtain ⟨⟨h1, h2⟩, h3⟩ := fold_min (Finset.univ.filter fun i => reduces_S1x8x6144_S1.drop i = j) 2147483647#32
      (fun z : S1x8x6144.Idx => if v z = v z₀ then w z else 2147483647#32)
    have hz := h2 z₀ (Finset.mem_filter.2 ⟨Finset.mem_univ _, one_index _ _⟩)
    rw [if_pos rfl] at hz
    refine BitVec.eq_of_toInt_eq (le_antisymm hz ?_)
    have hbig : ∀ p : BitVec 32, p.toInt ≤ (2147483647#32 : BitVec 32).toInt := fun p => by
      have := BitVec.toInt_lt (x := p)
      have e : (2147483647#32 : BitVec 32).toInt = 2147483647 := rfl
      rw [e]; omega
    rcases h3 with e | ⟨z, _, e⟩
    · rw [e]; exact hbig _
    · rw [e]
      show (w z₀).toInt ≤ (if v z = v z₀ then w z else 2147483647#32).toInt
      split
      · rename_i h; exact hmin z h
      · exact hbig _
  have key : ∀ M : EReal, M = v z₀ → ∀ j : S1.Idx, multiReductionI .minsi [1, 2] S1 (shapeCast S1x8x6144 (select (cmpf (F := Ideal) (φ := .f32) .oeq
        (shapeCast S8x6144 v shapeCasts_S1x8x6144_S8x6144) (broadcast S8x6144 M)) (shapeCast S8x6144 w shapeCasts_S1x8x6144_S8x6144)
        (broadcast S8x6144 2147483647#32)) shapeCasts_S8x6144_S1x8x6144) 2147483647#32 reduces_S1x8x6144_S1 rfl j = w z₀ := by
    intro M hM j
    rw [hM, funext hsel]
    exact hred j
  unfold pick k0_pay3
  exact extract_one _ _ (key _ (extract_one _ _ (lanes_max v z₀ hmax)))

end Cert.KernelIdeal.Hand
end
-- ==== Proof.Running.lean ====
/- A row of the kernel's grid, on the extended reals: after its last chunk every lane holds the best of the scores it has met
   and that score's position, and what the row reports for a sample is the position of the sample's best score. -/
module

public import proofs.«01_k».proof.Proof.Pick

@[expose] public section

noncomputable section

namespace Cert.KernelIdeal.Hand

open Cert.KernelIdeal Cert.KernelIdeal.Gen Idealize.ShloMosaic Cert.Draws

/-- The score of category `j` for sample `s` of row `q`, the row's weights being `x`. -/
def scoreAt (x : Fin 1000000 → EReal) (q : Fin 32) (s : ℕ) (j : Fin 1000000) : EReal :=
  score (x j) (bits (BitVec.ofNat 32 (q.val * 5000000 + s * 1000000 + j.val + 42)))

variable (X : S32x8x125000.Idx → Ideal .f32) (x : Fin 1000000 → EReal) (q : Fin 32)

/-! Positions: sublane `b`, column `k·6144 + p` within the sublane's stretch. -/

theorem split_pos {j b k p : ℕ} (h : j = b * 125000 + k * 6144 + p) : j = b * 125000 + (k * 6144 + p) := h.trans (Nat.add_assoc _ _ _)
theorem first_lt {b p : ℕ} (hb : b < 8) (hp : p < 6144) : b * 125000 + p < 1000000 := by omega
theorem first_pos {j b k p : ℕ} (h : j = b * 125000 + p) (hk : k = 0) : j = b * 125000 + k * 6144 + p := by
  rw [h, hk, Nat.zero_mul, Nat.add_zero]
theorem next_lt {b k p : ℕ} (hb : b < 8) (h : k * 6144 + p < 125000) : b * 125000 + k * 6144 + p < 1000000 := by
  linarith

/-- The kernel's input row is the row of weights cut into eight stretches. -/
def RowOf : Prop := ∀ (b : Fin 8) (k : Fin 125000) (j : Fin 1000000), j.val = b.val * 125000 + k.val →
  X (Fin.cons q (Fin.cons b (Fin.cons k fun a => a.elim0))) = x j

/-- A lane's noisy logit: its logit less the noise of its random word. -/
theorem noisyV_apply (lm : FVec Ideal S8x6144 .f32) (b : IVec S8x6144 32) (y : S8x6144.Idx) :
    noisyV (F := Ideal) lm b y = (lm y : EReal) - (noise (b y) : EReal) := by
  have e : noisyV (F := Ideal) lm b y = (lm y : EReal) - Ideal.log (Ideal.ofBits .f32 0x00000000#32 - Ideal.log (Ideal.ofBits .f32
      (IntOp.shrui .vector (b y) 9#32 ||| 1065353216#32) - Ideal.ofBits .f32 0x3F800000#32 + Ideal.ofBits .f32 0x00800000#32)) := rfl
  rw [e, shr_eq _ _ 9#32 9 rfl (by decide), noise_kernel]

/-- What the body computes on a lane past the row's end, -/
theorem noisy_out (i : grid0.Coords) (s : Fin 5) (y : S8x6144.Idx) (h : ¬ (i 1).val * 6144 + (y 1).val < 125000) (B : Vec Ideal S1x8x6144 .f32) :
    noisyS (F := Ideal) i B (BitVec.ofNat 32 s.val) y < low := by
  rw [noisyS, noisyV_apply, pay10_apply, if_neg h]
  exact mask_lt_low _

/-- and on a lane inside it. -/
theorem noisy_in (hX : RowOf X x q) (i : grid0.Coords) (hi : (i 0).val = q.val) (s : Fin 5) (y : S8x6144.Idx) (j : Fin 1000000)
    (h : (i 1).val * 6144 + (y 1).val < 125000) (hj : j.val = (y 0).val * 125000 + (i 1).val * 6144 + (y 1).val) :
    noisyS (F := Ideal) i (blkOf (F := Ideal) X i) (BitVec.ofNat 32 s.val) y = scoreAt x q s.val j := by
  have eb : blkOf (F := Ideal) X i (Fin.cons ⟨0, Nat.one_pos⟩ y) = x j := by
    unfold blkOf
    refine (dif_pos h).trans ?_
    have hq : i 0 = q := Fin.ext hi
    rw [hq]
    exact hX (y 0) ⟨(i 1).val * 6144 + (y 1).val, h⟩ j (split_pos hj)
  rw [noisyS, noisyV_apply, pay10_apply, if_pos h, eb, bitsV_lane, ctr_lane, hi, ← hj]
  rfl

/-- What a lane holds after chunk `k` of row `q`: the best of the scores it has met and that score's position. -/
def Held (s b p k : ℕ) (V : EReal) (W : BitVec 32) : Prop :=
  ∃ J : Fin 1000000, V = scoreAt x q s J ∧ W = BitVec.ofNat 32 J.val ∧ (∃ k', k' ≤ k ∧ J.val = b * 125000 + k' * 6144 + p) ∧
    ∀ k' ≤ k, ∀ j : Fin 1000000, k' * 6144 + p < 125000 → j.val = b * 125000 + k' * 6144 + p →
      scoreAt x q s j ≤ scoreAt x q s J ∧ (scoreAt x q s j = scoreAt x q s J → J ≤ j)

/-- The update of a lane, by whether its new score exceeds the maximum held. -/
theorem step_new (i : grid0.Coords) (B : Vec Ideal S1x8x6144 .f32) (V : S5x8x6144.Idx → EReal) (W : S5x8x6144.Idx → BitVec 32) (y : S5x8x6144.Idx)
    (h : V y < noisyS (F := Ideal) i B (BitVec.ofNat 32 (y 0).val) (lane y)) :
    stepMax (F := Ideal) i B V y = noisyS (F := Ideal) i B (BitVec.ofNat 32 (y 0).val) (lane y) ∧ stepIdx (F := Ideal) i B V W y = k0_pay9 i (lane y) := by
  have hc : FloatOps.cmpf (F := Ideal) (φ := .f32) .ogt (noisyS (F := Ideal) i B (BitVec.ofNat 32 (y 0).val) (lane y)) (V y) = 1#1 := by
    show BitVec.ofBool (decide (V y < noisyS (F := Ideal) i B (BitVec.ofNat 32 (y 0).val) (lane y))) = 1#1
    rw [decide_eq_true h]; rfl
  exact ⟨if_pos hc, if_pos hc⟩

theorem step_old (i : grid0.Coords) (B : Vec Ideal S1x8x6144 .f32) (V : S5x8x6144.Idx → EReal) (W : S5x8x6144.Idx → BitVec 32) (y : S5x8x6144.Idx)
    (h : ¬ V y < noisyS (F := Ideal) i B (BitVec.ofNat 32 (y 0).val) (lane y)) :
    stepMax (F := Ideal) i B V y = V y ∧ stepIdx (F := Ideal) i B V W y = W y := by
  have hc : ¬ FloatOps.cmpf (F := Ideal) (φ := .f32) .ogt (noisyS (F := Ideal) i B (BitVec.ofNat 32 (y 0).val) (lane y)) (V y) = 1#1 := by
    show ¬ BitVec.ofBool (decide (V y < noisyS (F := Ideal) i B (BitVec.ofNat 32 (y 0).val) (lane y))) = 1#1
    rw [decide_eq_false h]; decide
  exact ⟨if_neg hc, if_neg hc⟩

variable (hX : RowOf X x q) (hpos : ∀ j, 0 ≤ x j)
include hX hpos

/-- The first chunk: the fill lies below every score, so the lane's own score is held. -/
theorem held_first (i : grid0.Coords) (hi : (i 0).val = q.val) (h0 : (i 1).val = 0) (W : S5x8x6144.Idx → BitVec 32) (y : S5x8x6144.Idx) :
    Held x q (y 0).val (y 1).val (y 2).val 0 (stepMax (F := Ideal) i (blkOf (F := Ideal) X i) (fillV (F := Ideal)) y) (stepIdx (F := Ideal) i (blkOf (F := Ideal) X i) (fillV (F := Ideal)) W y) := by
  have h1 : (y 1).val < 8 := (y 1).isLt
  have h2 : (y 2).val < 6144 := (y 2).isLt
  have hin : (i 1).val * 6144 + (lane y 1).val < 125000 := by
    show (i 1).val * 6144 + (y 2).val < 125000
    omega
  obtain ⟨K, hK⟩ : ∃ K : Fin 1000000, K.val = (y 1).val * 125000 + (y 2).val := ⟨⟨_, first_lt h1 h2⟩, rfl⟩
  have hn := noisy_in X x q hX i hi (y 0) (lane y) K hin
    (first_pos hK h0)
  have hlt : (fillV (F := Ideal)) y < noisyS (F := Ideal) i (blkOf (F := Ideal) X i) (BitVec.ofNat 32 (y 0).val) (lane y) := by
    rw [hn]
    exact lt_of_lt_of_le fill_lt_low (low_le_score _ (hpos _) _)
  have hs := step_new i (blkOf (F := Ideal) X i) (fillV (F := Ideal)) W y hlt
  refine ⟨K, hs.1.trans hn, hs.2.trans ((pos_lane i (lane y)).trans ?_), ⟨0, le_rfl, ?_⟩, ?_⟩
  · show BitVec.ofNat 32 ((y 1).val * 125000 + (i 1).val * 6144 + (y 2).val) = BitVec.ofNat 32 K.val
    rw [h0, Nat.zero_mul, Nat.add_zero, hK]
  · exact first_pos hK rfl
  · intro k' hk' j _ hj
    have e : j = K := Fin.ext (by rw [hj, hK, Nat.le_zero.1 hk']; omega)
    rw [e]
    exact ⟨le_rfl, fun _ => le_rfl⟩

/-- A later chunk: a score larger than the one held replaces it, and one past the row's end never does. -/
theorem held_next (i : grid0.Coords) (hi : (i 0).val = q.val) (k : ℕ) (hk : (i 1).val = k + 1) (V : S5x8x6144.Idx → EReal)
    (W : S5x8x6144.Idx → BitVec 32) (y : S5x8x6144.Idx) (h : Held x q (y 0).val (y 1).val (y 2).val k (V y) (W y)) :
    Held x q (y 0).val (y 1).val (y 2).val (k + 1) (stepMax (F := Ideal) i (blkOf (F := Ideal) X i) V y) (stepIdx (F := Ideal) i (blkOf (F := Ideal) X i) V W y) := by
  obtain ⟨J, hV, hW, ⟨k₀, hk₀, hJ⟩, hall⟩ := h
  have h1 : (y 1).val < 8 := (y 1).isLt
  by_cases hin : (i 1).val * 6144 + (lane y 1).val < 125000
  · have hin' : (k + 1) * 6144 + (y 2).val < 125000 := by rw [← hk]; exact hin
    have hlt : (y 1).val * 125000 + (k + 1) * 6144 + (y 2).val < 1000000 := next_lt h1 hin'
    obtain ⟨K, hK⟩ : ∃ K : Fin 1000000, K.val = (y 1).val * 125000 + (k + 1) * 6144 + (y 2).val := ⟨⟨_, hlt⟩, rfl⟩
    have hn := noisy_in X x q hX i hi (y 0) (lane y) K hin
      (by show K.val = (y 1).val * 125000 + (i 1).val * 6144 + (y 2).val; rw [hK, hk])
    have hnew : ∀ j : Fin 1000000, j.val = (y 1).val * 125000 + (k + 1) * 6144 + (y 2).val → j = K := fun j hj => Fin.ext (hj.trans hK.symm)
    by_cases hc : V y < noisyS (F := Ideal) i (blkOf (F := Ideal) X i) (BitVec.ofNat 32 (y 0).val) (lane y)
    · have hs := step_new i (blkOf (F := Ideal) X i) V W y hc
      rw [hn, hV] at hc
      refine ⟨K, hs.1.trans hn, hs.2.trans ((pos_lane i (lane y)).trans ?_), ⟨k + 1, le_rfl, hK⟩, fun k' hk' j hj hjv => ?_⟩
      · show BitVec.ofNat 32 ((y 1).val * 125000 + (i 1).val * 6144 + (y 2).val) = BitVec.ofNat 32 K.val
        rw [hk, hK]
      · rcases Nat.lt_or_eq_of_le hk' with hlt' | rfl
        · have := (hall k' (Nat.lt_succ_iff.1 hlt') j hj hjv).1
          exact ⟨(this.trans_lt hc).le, fun e => absurd e (this.trans_lt hc).ne⟩
        · rw [hnew j hjv]
          exact ⟨le_rfl, fun _ => le_rfl⟩
    · have hs := step_old i (blkOf (F := Ideal) X i) V W y hc
      rw [hn, hV] at hc
      refine ⟨J, hs.1.trans hV, hs.2.trans hW, ⟨k₀, hk₀.trans (Nat.le_succ k), hJ⟩, fun k' hk' j hj hjv => ?_⟩
      rcases Nat.lt_or_eq_of_le hk' with hlt' | rfl
      · exact hall k' (Nat.lt_succ_iff.1 hlt') j hj hjv
      · rw [hnew j hjv]
        refine ⟨not_lt.1 hc, fun _ => ?_⟩
        show J.val ≤ K.val
        rw [hJ, hK]
        omega
  · have hc : ¬ V y < noisyS (F := Ideal) i (blkOf (F := Ideal) X i) (BitVec.ofNat 32 (y 0).val) (lane y) := by
      rw [hV]
      exact not_lt.2 ((noisy_out i (y 0) (lane y) hin (blkOf (F := Ideal) X i)).le.trans (low_le_score _ (hpos _) _))
    have hs := step_old i (blkOf (F := Ideal) X i) V W y hc
    refine ⟨J, hs.1.trans hV, hs.2.trans hW, ⟨k₀, hk₀.trans (Nat.le_succ k), hJ⟩, fun k' hk' j hj hjv => ?_⟩
    rcases Nat.lt_or_eq_of_le hk' with hlt' | rfl
    · exact hall k' (Nat.lt_succ_iff.1 hlt') j hj hjv
    · refine absurd ?_ hin
      show (i 1).val * 6144 + (y 2).val < 125000
      rw [hk]; exact hj

/-- Along a row. -/
theorem held_row (W₀ : S5x8x6144.Idx → BitVec 32) (y : S5x8x6144.Idx) : ∀ k : ℕ, k ≤ 20 → ∀ h : 21 * q.val + k < grid0.N,
    Held x q (y 0).val (y 1).val (y 2).val k (vAt (F := Ideal) X (21 * q.val + k) h y) (wAt (F := Ideal) X W₀ (21 * q.val + k) h y)
  | 0, _, h => by
    have e0 : (21 * q.val + 0) % 21 = 0 := by omega
    rw [vAt_first (F := Ideal) X _ h e0, wAt_first (F := Ideal) X W₀ _ h e0]
    exact held_first X x q hX hpos _ ((coords_row _).trans (by show (21 * q.val + 0) / 21 = q.val; omega)) ((coords_chunk _).trans e0) W₀ y
  | k + 1, hk, h => by
    have e1 : (21 * q.val + k + 1) % 21 ≠ 0 := by omega
    have h' : 21 * q.val + k + 1 < grid0.N := h
    show Held x q (y 0).val (y 1).val (y 2).val (k + 1) (vAt (F := Ideal) X (21 * q.val + k + 1) h' y) (wAt (F := Ideal) X W₀ (21 * q.val + k + 1) h' y)
    rw [vAt_next (F := Ideal) X _ h' e1, wAt_next (F := Ideal) X W₀ _ h' e1]
    refine held_next X x q hX hpos _ ((coords_row _).trans (by show (21 * q.val + k + 1) / 21 = q.val; omega)) k
      ((coords_chunk _).trans (by show (21 * q.val + k + 1) % 21 = k + 1; omega)) _ _ y ?_
    exact held_row W₀ y k (by omega) (Nat.lt_of_succ_lt h')

end Cert.KernelIdeal.Hand
end
-- ==== Proof.RefBest.lean ====
/- What the reference returns, on the extended reals: for every row and sample the position of the best score, the least
   position where scores are equal. -/
module

public import proofs.«01_k».proof.Proof.Running

@[expose] public section

noncomputable section

namespace Cert.ReferenceIdeal.Hand

open Cert.ReferenceIdeal Cert.ReferenceIdeal.Gen Idealize.ShloMosaic Cert.Draws
open Cert.KernelIdeal.Hand (scoreAt)

/-- A pair is at least as good as another: its score is larger, or equal and its position no larger. -/
def Beats (a b : EReal × BitVec 32) : Prop := b.1 ≤ a.1 ∧ (b.1 = a.1 → a.2.toInt ≤ b.2.toInt)

theorem Beats.refl (a : EReal × BitVec 32) : Beats a a := ⟨le_rfl, fun _ => le_rfl⟩

theorem Beats.trans {a b c : EReal × BitVec 32} (h : Beats a b) (h' : Beats b c) : Beats a c :=
  ⟨h'.1.trans h.1, fun e => by
    have e' : b.1 = a.1 := le_antisymm h.1 (e ▸ h'.1)
    exact (h.2 e').trans (h'.2 (e.trans e'.symm))⟩

/-- The reference's comparison keeps one of the two pairs, and the one it keeps is at least as good as both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  have ene : Ideal.cmp .une a.1 a.1 = 0#1 := by
    show BitVec.ofBool (decide (a.1 ≠ a.1)) = 0#1
    rw [decide_eq_false (fun h => h rfl)]; rfl
  have hdef : reducer_argmax_f32_i32 (F := Ideal) a b
      = (Scalar.select (Ideal.cmp .ogt a.1 b.1 ||| Ideal.cmp .une a.1 a.1) a.1 b.1,
        Scalar.select ((Ideal.cmp .ogt a.1 b.1 ||| Ideal.cmp .une a.1 a.1) ||| (Ideal.cmp .oeq a.1 b.1 &&& IntOp.cmpi .slt a.2 b.2)) a.2 b.2) := rfl
  rw [hdef, ene]
  rcases lt_trichotomy b.1 a.1 with h | h | h
  · have e1 : Ideal.cmp .ogt a.1 b.1 = 1#1 := by
      show BitVec.ofBool (decide (b.1 < a.1)) = 1#1
      rw [decide_eq_true h]; rfl
    have e2 : ∀ t : BitVec 1, (Scalar.select (1#1 ||| 0#1) a.1 b.1, Scalar.select (1#1 ||| 0#1 ||| t) a.2 b.2) = a := fun t => by
      have ht : 1#1 ||| 0#1 ||| t = 1#1 := (by decide : ∀ t : BitVec 1, 1#1 ||| 0#1 ||| t = 1#1) t
      rw [ht]; rfl
    rw [e1, e2]
    exact ⟨Or.inl rfl, Beats.refl a, h.le, fun e => absurd e h.ne⟩
  · have e1 : Ideal.cmp .ogt a.1 b.1 = 0#1 := by
      show BitVec.ofBool (decide (b.1 < a.1)) = 0#1
      rw [decide_eq_false (by rw [h]; exact lt_irrefl _)]; rfl
    have e3 : Ideal.cmp .oeq a.1 b.1 = 1#1 := by
      show BitVec.ofBool (decide (a.1 = b.1)) = 1#1
      rw [decide_eq_true h.symm]; rfl
    rw [e1, e3]
    by_cases hs : a.2.toInt < b.2.toInt
    · have e4 : IntOp.cmpi .slt a.2 b.2 = 1#1 := by
        show BitVec.ofBool (decide (a.2.toInt < b.2.toInt)) = 1#1
        rw [decide_eq_true hs]; rfl
      have e5 : (Scalar.select (0#1 ||| 0#1) a.1 b.1, Scalar.select (0#1 ||| 0#1 ||| 1#1 &&& 1#1) a.2 b.2) = a := Prod.ext h rfl
      rw [e4, e5]
      exact ⟨Or.inl rfl, Beats.refl a, h.le, fun _ => hs.le⟩
    · have e4 : IntOp.cmpi .slt a.2 b.2 = 0#1 := by
        show BitVec.ofBool (decide (a.2.toInt < b.2.toInt)) = 0#1
        rw [decide_eq_false hs]; rfl
      have e5 : (Scalar.select (0#1 ||| 0#1) a.1 b.1, Scalar.select (0#1 ||| 0#1 ||| 1#1 &&& 0#1) a.2 b.2) = b := rfl
      rw [e4, e5]
      exact ⟨Or.inr rfl, ⟨h.ge, fun _ => not_lt.1 hs⟩, Beats.refl b⟩
  · have e1 : Ideal.cmp .ogt a.1 b.1 = 0#1 := by
      show BitVec.ofBool (decide (b.1 < a.1)) = 0#1
      rw [decide_eq_false (not_lt.2 h.le)]; rfl
    have e3 : Ideal.cmp .oeq a.1 b.1 = 0#1 := by
      show BitVec.ofBool (decide (a.1 = b.1)) = 0#1
      rw [decide_eq_false h.ne]; rfl
    have e5 : ∀ t : BitVec 1, (Scalar.select (0#1 ||| 0#1) a.1 b.1, Scalar.select (0#1 ||| 0#1 ||| 0#1 &&& t) a.2 b.2) = b := fun t => by
      have ht : 0#1 ||| 0#1 ||| 0#1 &&& t = 0#1 := (by decide : ∀ t : BitVec 1, 0#1 ||| 0#1 ||| 0#1 &&& t = 0#1) t
      rw [ht]; rfl
    rw [e1, e3, e5]
    exact ⟨Or.inr rfl, ⟨h.le, fun e => absurd e h.ne⟩, Beats.refl b⟩

/-- The fold of the comparison over a list: the start or one of the list, and at least as good as all of them. -/
theorem fold_spec (L : List (EReal × BitVec 32)) : ∀ a : EReal × BitVec 32,
    (L.foldl (reducer_argmax_f32_i32 (F := Ideal)) a = a ∨ L.foldl (reducer_argmax_f32_i32 (F := Ideal)) a ∈ L)
      ∧ Beats (L.foldl (reducer_argmax_f32_i32 (F := Ideal)) a) a ∧ ∀ p ∈ L, Beats (L.foldl (reducer_argmax_f32_i32 (F := Ideal)) a) p := by
  induction L with
  | nil => exact fun a => ⟨Or.inl rfl, Beats.refl a, fun p hp => absurd hp List.not_mem_nil⟩
  | cons b L ih =>
    intro a
    rw [List.foldl_cons]
    obtain ⟨h1, h2, h3⟩ := ih (reducer_argmax_f32_i32 (F := Ideal) a b)
    obtain ⟨r1, r2, r3⟩ := reducer_spec a b
    refine ⟨?_, h2.trans r2, fun p hp => ?_⟩
    · rcases h1 with e | e
      · rw [e]
        rcases r1 with e' | e'
        · exact Or.inl e'
        · rw [e']; exact Or.inr List.mem_cons_self
      · exact Or.inr (List.mem_cons_of_mem b e)
    · rcases List.mem_cons.1 hp with rfl | hp
      · exact h2.trans r3
      · exact h3 p hp

/-- The reduction at an index: the start or one of the entries the index collects, and at least as good as all of these. -/
theorem argReduce_spec {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) :
    (Host.argReduce (reducer_argmax_f32_i32 (F := Ideal)) x y ix iy h hu j = (ix (Shape.Idx.first hu), iy (Shape.Idx.first hu))
        ∨ ∃ i, h.drop i = j ∧ Host.argReduce (reducer_argmax_f32_i32 (F := Ideal)) x y ix iy h hu j = (x i, y i))
      ∧ ∀ i, h.drop i = j → Beats (Host.argReduce (reducer_argmax_f32_i32 (F := Ideal)) x y ix iy h hu j) (x i, y i) := by
  have hmem : ∀ p, p ∈ Host.argReduceFiber x y h j ↔ ∃ i, h.drop i = j ∧ p = (x i, y i) := by
    intro p
    unfold Host.argReduceFiber
    rw [List.mem_map]
    constructor
    · rintro ⟨n, hn, rfl⟩
      exact ⟨_, of_decide_eq_true (List.mem_filter.1 hn).2, rfl⟩
    · rintro ⟨i, hi, rfl⟩
      refine ⟨s.rowMajor i, List.mem_filter.2 ⟨List.mem_finRange _, decide_eq_true ?_⟩, ?_⟩
      · rw [Equiv.symm_apply_apply]; exact hi
      · rw [Equiv.symm_apply_apply]
  rw [Ideal.argReduce_eq_reduce2, Host.reduce2_eq_foldl_fiber]
  obtain ⟨r1, -, r3⟩ := fold_spec (Host.argReduceFiber x y h j) (ix (Shape.Idx.first hu), iy (Shape.Idx.first hu))
  refine ⟨r1.imp_right fun hr => (hmem _).1 hr, fun i hi => r3 _ ((hmem _).2 ⟨i, hi, rfl⟩)⟩

/-- The entry of category `j` for sample `s` of row `q`. -/
abbrev entry (q : Fin 32) (s : Fin 5) (j : Fin 1000000) : S32x5x1000000.Idx := Fin.cons q (Fin.cons s (Fin.cons j fun a => a.elim0))

/-- One entry of the reference's scores, from the two cipher words of the entry and its logit. -/
theorem scores_apply (P Q : (⟨S32x5x1000000, .i32⟩ : BufTy).Contents (Elt Ideal)) (l : (⟨S32x1000000, .f32⟩ : BufTy).Contents (Elt Ideal)) (i : S32x5x1000000.Idx) :
    scores (uniformsR P Q) l i
      = -Ideal.log (-Ideal.log (max (Ideal.ofBits .f32 0x00800000#32) ((Ideal.ofBits .f32 (IntOp.shrui .host (P i ^^^ Q i) 9#32 ||| 1065353216#32)
        - Ideal.ofBits .f32 0x3F800000#32) * Ideal.ofBits .f32 0x3F800000#32 + Ideal.ofBits .f32 0x00800000#32)))
        + (broadcastInDim S32x5x1000000 ![0, 1, 2] bcast_S32x1x1000000_S32x5x1000000_0_1_2
      (broadcastInDim S32x1x1000000 ![0, 2] bcast_S32x1000000_S32x1x1000000_0_2 l : (⟨S32x1x1000000, .f32⟩ : BufTy).Contents (Elt Ideal))) i := rfl

/-- A row's logits are the same for each of its samples. -/
theorem spread_entry (l : (⟨S32x1000000, .f32⟩ : BufTy).Contents (Elt Ideal)) (q : Fin 32) (s : Fin 5) (j : Fin 1000000) :
    (broadcastInDim S32x5x1000000 ![0, 1, 2] bcast_S32x1x1000000_S32x5x1000000_0_1_2
      (broadcastInDim S32x1x1000000 ![0, 2] bcast_S32x1000000_S32x1x1000000_0_2 l : (⟨S32x1x1000000, .f32⟩ : BufTy).Contents (Elt Ideal))) (entry q s j)
      = l (Fin.cons q (Fin.cons j fun a => a.elim0)) := by
  rw [broadcastInDim_apply _ _ _ _ (Fin.cons q (Fin.cons (0 : Fin 1) (Fin.cons j fun a => a.elim0)) : S32x1x1000000.Idx), broadcastInDim_apply _ _ _ _ (Fin.cons q (Fin.cons j fun a => a.elim0) : S32x1000000.Idx)]
  · intro a
    refine Fin.cases ?_ (fun a => Fin.cases ?_ (fun a => a.elim0) a) a
    · exact (if_neg (by decide)).symm
    · exact (if_neg (by decide)).symm
  · intro a
    refine Fin.cases ?_ (fun a => Fin.cases ?_ (fun a => Fin.cases ?_ (fun a => a.elim0) a) a) a
    · exact (if_neg (by decide)).symm
    · exact (if_pos rfl).symm
    · exact (if_neg (by decide)).symm

/-- The reference's scores are the scores. -/
theorem scores_entry (X : (⟨S32x1000000, .f32⟩ : BufTy).Contents (Elt Ideal)) (q : Fin 32) (s : Fin 5) (j : Fin 1000000) :
    scores (uniformsR (zKey5 Ideal).1 (zKey5 Ideal).2) (logits X) (entry q s j)
      = scoreAt (fun k => X (Fin.cons q (Fin.cons k fun a => a.elim0))) q s.val j := by
  have hw := words_entry (F := Ideal) (entry q s j)
  have h1 : (zKey5 Ideal).1 (entry q s j) ^^^ (zKey5 Ideal).2 (entry q s j) = bits (BitVec.ofNat 32 (q.val * 5000000 + s.val * 1000000 + j.val + 42)) := by
    unfold bits
    rw [show words (BitVec.ofNat 32 (q.val * 5000000 + s.val * 1000000 + j.val + 42)) = onEntry (entry q s j) (zKey5 Ideal) from hw.symm]
    rfl
  rw [scores_apply, spread_entry, h1, shr_eq _ _ 9#32 9 rfl (by decide), noise_reference]
  unfold scoreAt score
  rw [sub_eq_add_neg, add_comm]
  rfl

/-- An entry whose last coordinate is dropped. -/
theorem drop_eq_iff (i : S32x5x1000000.Idx) (q : Fin 32) (s : Fin 5) :
    reducesTo_S32x5x1000000_S32x5_d2.drop i = (Fin.cons q (Fin.cons s fun a => a.elim0) : S32x5.Idx) ↔ ∃ k : Fin 1000000, i = entry q s k := by
  have h0 : (reducesTo_S32x5x1000000_S32x5_d2.drop i (0 : Fin 2)).val = (i (0 : Fin 3)).val :=
    Shape.ReducesTo.drop_apply_val_of_eq reducesTo_S32x5x1000000_S32x5_d2 i (0 : Fin 2) (0 : Fin 3)
  have h1 : (reducesTo_S32x5x1000000_S32x5_d2.drop i (1 : Fin 2)).val = (i (1 : Fin 3)).val :=
    Shape.ReducesTo.drop_apply_val_of_eq reducesTo_S32x5x1000000_S32x5_d2 i (1 : Fin 2) (1 : Fin 3)
  constructor
  · intro e
    rw [e] at h0 h1
    refine ⟨i (2 : Fin 3), funext fun a => ?_⟩
    refine Fin.cases ?_ (fun a => Fin.cases ?_ (fun a => Fin.cases ?_ (fun a => a.elim0) a) a) a
    · exact Fin.ext h0.symm
    · exact Fin.ext h1.symm
    · rfl
  · rintro ⟨k, rfl⟩
    funext a
    refine Fin.cases ?_ (fun a => Fin.cases ?_ (fun a => a.elim0) a) a
    · exact Fin.ext h0
    · exact Fin.ext h1

/-- The reduction of scores and positions, as the reference runs it. -/
def reduced {F : FTy → Type} [FloatOps F] (v : (⟨S32x5x1000000, .f32⟩ : BufTy).Contents (Elt F)) (j : S32x5.Idx) : F .f32 × BitVec 32 :=
  Host.argReduce reducer_argmax_f32_i32 v (iotaInDim S32x5x1000000 32 2 : Words F) (constant S_ .f32 0xFF800000#32 : (⟨S_, .f32⟩ : BufTy).Contents (Elt F))
    (constantI S_ 32 0#32 : (⟨S_, .i32⟩ : BufTy).Contents (Elt F)) reducesTo_S32x5x1000000_S32x5_d2 h_S_ j

/-- The reference's pick is the position of the pair the reduction leaves. -/
theorem best_reduced {F : FTy → Type} [FloatOps F] (v : (⟨S32x5x1000000, .f32⟩ : BufTy).Contents (Elt F)) (j : S32x5.Idx) : best v j = (reduced v j).2 := by
  have e : best v = fun j => (reduced v j).2 := by
    delta best reduced
    with_reducible rfl
  exact congrFun e j

/-- What the reduction leaves: the start or a pair of the row and sample, and at least as good as all of these pairs. -/
theorem reduced_spec (v : (⟨S32x5x1000000, .f32⟩ : BufTy).Contents (Elt Ideal)) (j : S32x5.Idx) :
    (reduced (F := Ideal) v j = (constant (F := Ideal) S_ .f32 0xFF800000#32 (Shape.Idx.first h_S_), constantI S_ 32 0#32 (Shape.Idx.first h_S_))
        ∨ ∃ i, reducesTo_S32x5x1000000_S32x5_d2.drop i = j ∧ reduced (F := Ideal) v j = (v i, iotaInDim S32x5x1000000 32 2 i))
      ∧ ∀ i, reducesTo_S32x5x1000000_S32x5_d2.drop i = j → Beats (reduced (F := Ideal) v j) (v i, iotaInDim S32x5x1000000 32 2 i) := by
  delta reduced
  exact argReduce_spec (s := S32x5x1000000) (t := S32x5) (u := S_) v (iotaInDim S32x5x1000000 32 2) (constant (F := Ideal) S_ .f32 0xFF800000#32)
    (constantI S_ 32 0#32) reducesTo_S32x5x1000000_S32x5_d2 h_S_ j

/-- The reduction of the categories of a row and sample is the least position of the best score. -/
theorem best_eq (v : (⟨S32x5x1000000, .f32⟩ : BufTy).Contents (Elt Ideal)) (q : Fin 32) (s : Fin 5) (g : Fin 1000000 → EReal)
    (hv : ∀ j, v (entry q s j) = g j) (hg : ∀ j, low ≤ g j) (J : Fin 1000000) (hJ : IsBest g J) :
    best v (Fin.cons q (Fin.cons s fun a => a.elim0)) = BitVec.ofNat 32 J.val := by
  have hbot : Ideal.ofBits .f32 0xFF800000#32 = ⊥ := by
    show Ideal.ieee 8 23 0xFF800000#32 = ⊥
    simp [Ideal.ieee]
  refine (best_reduced (F := Ideal) v (Fin.cons q (Fin.cons s fun a => a.elim0))).trans ?_
  obtain ⟨r1, r3⟩ := reduced_spec v (Fin.cons q (Fin.cons s fun a => a.elim0))
  generalize reduced (F := Ideal) v (Fin.cons q (Fin.cons s fun a => a.elim0)) = r at r1 r3 ⊢
  have hat : ∀ k : Fin 1000000, (v (entry q s k), iotaInDim S32x5x1000000 32 2 (entry q s k)) = (g k, BitVec.ofNat 32 k.val) := fun k => by
    rw [hv]; rfl
  have bJ := r3 (entry q s J) ((drop_eq_iff _ q s).2 ⟨J, rfl⟩)
  rw [hat] at bJ
  have hin : ∃ k : Fin 1000000, r = (g k, BitVec.ofNat 32 k.val) := by
    rcases r1 with e | ⟨i, hi, e⟩
    · exfalso
      have h1 : g J ≤ r.1 := bJ.1
      have h0 : r.1 = ⊥ := (congrArg Prod.fst e).trans hbot
      rw [h0] at h1
      have h2 : low ≤ ⊥ := (hg J).trans h1
      unfold low at h2
      exact absurd (le_bot_iff.1 h2) (EReal.coe_ne_bot _)
    · obtain ⟨k, rfl⟩ := (drop_eq_iff i q s).1 hi
      exact ⟨k, e.trans (hat k)⟩
  obtain ⟨k, hk⟩ := hin
  rw [hk] at bJ ⊢
  have hkJ : g k = g J := le_antisymm (hJ k).1 bJ.1
  have h1 : J ≤ k := (hJ k).2 hkJ
  have h2 : (BitVec.ofNat 32 k.val).toInt ≤ (BitVec.ofNat 32 J.val).toInt := bJ.2 hkJ.symm
  rw [toInt_pos k.isLt, toInt_pos J.isLt] at h2
  have h3 : k.val ≤ J.val := Int.ofNat_le.1 h2
  rw [le_antisymm h1 (Fin.le_def.2 h3)]

/-- What the reference returns for a row of weights none of which is negative. -/
theorem ref_report (X : (⟨S32x1000000, .f32⟩ : BufTy).Contents (Elt Ideal)) (q : Fin 32) (s : Fin 5)
    (hpos : ∀ k : Fin 1000000, (0 : EReal) ≤ X (Fin.cons q (Fin.cons k fun a => a.elim0))) (J : Fin 1000000)
    (hJ : IsBest (scoreAt (fun k => X (Fin.cons q (Fin.cons k fun a => a.elim0))) q s.val) J) :
    best (scores (uniformsR (zKey5 Ideal).1 (zKey5 Ideal).2) (logits X)) (Fin.cons q (Fin.cons s fun a => a.elim0)) = BitVec.ofNat 32 J.val :=
  best_eq _ q s _ (scores_entry X q s) (fun j => low_le_score _ (hpos j) _) J hJ

end Cert.ReferenceIdeal.Hand
end
-- ==== Proof.Report.lean ====
/- What the kernel reports, on the extended reals: for every row and sample the position of the best score. -/
module

public import proofs.«01_k».proof.Proof.Running

@[expose] public section

noncomputable section

namespace Cert.KernelIdeal.Hand

open Cert.KernelIdeal Cert.KernelIdeal.Gen Idealize.ShloMosaic Cert.Draws

/-- Every position is a lane's at some chunk. -/
theorem lane_of (j : ℕ) (h : j < 1000000) : ∃ (b : Fin 8) (p : Fin 6144) (k : ℕ), k ≤ 20 ∧ k * 6144 + p.val < 125000
    ∧ j = b.val * 125000 + k * 6144 + p.val := by
  have h1 : j / 125000 < 8 := Nat.div_lt_of_lt_mul (by linarith)
  have h2 : j % 125000 < 125000 := Nat.mod_lt _ (by norm_num)
  have h3 : j % 125000 % 6144 < 6144 := Nat.mod_lt _ (by norm_num)
  have h4 : j % 125000 / 6144 < 21 := Nat.div_lt_of_lt_mul (by linarith)
  have e1 := Nat.div_add_mod j 125000
  have e2 := Nat.div_add_mod (j % 125000) 6144
  refine ⟨⟨j / 125000, h1⟩, ⟨j % 125000 % 6144, h3⟩, j % 125000 / 6144, Nat.lt_succ_iff.1 h4, ?_, ?_⟩
  · show j % 125000 / 6144 * 6144 + j % 125000 % 6144 < 125000
    rw [Nat.mul_comm, e2]; exact h2
  · show j = j / 125000 * 125000 + j % 125000 / 6144 * 6144 + j % 125000 % 6144
    rw [Nat.add_assoc, Nat.mul_comm _ 6144, e2, Nat.mul_comm, e1]

/-- THE ROW'S REPORT for a sample, whatever positions its row started from. -/
theorem row_report (X : S32x8x125000.Idx → Ideal .f32) (x : Fin 1000000 → EReal) (q : Fin 32) (hX : RowOf X x q) (hpos : ∀ j, 0 ≤ x j)
    (W₀ : S5x8x6144.Idx → BitVec 32) (s : Fin 5) (J : Fin 1000000) (hJ : IsBest (scoreAt x q s.val) J) :
    outOf (F := Ideal) (vAt (F := Ideal) X (21 * q.val + 20) (last_lt q)) (wAt (F := Ideal) X W₀ (21 * q.val + 20) (last_lt q)) (blkEntry s) = BitVec.ofNat 32 J.val := by
  have held := fun z : S1x8x6144.Idx => held_row X x q hX hpos W₀ (Fin.cons s fun a => z a.succ) 20 le_rfl (last_lt q)
  show pick (F := Ideal) (sliceAt (vAt (F := Ideal) X (21 * q.val + 20) (last_lt q)) s) (sliceAt (wAt (F := Ideal) X W₀ (21 * q.val + 20) (last_lt q)) s) = _
  generalize vAt (F := Ideal) X (21 * q.val + 20) (last_lt q) = V at held ⊢
  generalize wAt (F := Ideal) X W₀ (21 * q.val + 20) (last_lt q) = W at held ⊢
  have heldv : ∀ z : S1x8x6144.Idx, Held x q s.val (z 1).val (z 2).val 20 (sliceAt V s z) (sliceAt W s z) := held
  obtain ⟨b, p, k, hk, hin, hjv⟩ := lane_of J.val J.isLt
  have h0 := heldv (Fin.cons (0 : Fin 1) (Fin.cons b (Fin.cons p fun a => a.elim0)))
  generalize hz : (Fin.cons (0 : Fin 1) (Fin.cons b (Fin.cons p fun a => a.elim0)) : S1x8x6144.Idx) = z₀ at h0
  have hb : (z₀ 1).val = b.val := by rw [← hz]; rfl
  have hp : (z₀ 2).val = p.val := by rw [← hz]; rfl
  rw [hb, hp] at h0
  obtain ⟨J₀, hV, hW, _, hall⟩ := h0
  have h1 := hall k hk J hin hjv
  have hg : scoreAt x q s.val J₀ = scoreAt x q s.val J := le_antisymm (hJ J₀).1 h1.1
  have hJ₀ : J₀ = J := le_antisymm (h1.2 hg.symm) ((hJ J₀).2 hg)
  rw [hJ₀] at hV hW
  rw [← hW]
  refine pick_eq (sliceAt V s) (sliceAt W s) z₀ (fun z => ?_) (fun z e => ?_)
  · obtain ⟨K, hK, _⟩ := heldv z
    rw [hK, hV]
    exact (hJ K).1
  · obtain ⟨K, hK, hKW, _⟩ := heldv z
    rw [hK, hV] at e
    have : J.val ≤ K.val := (hJ K).2 e
    rw [hW, hKW, toInt_pos J.isLt, toInt_pos K.isLt]
    exact_mod_cast this

end Cert.KernelIdeal.Hand
end
-- ==== Proof.Weights.lean ====
/- The precondition read entry by entry: an array of weights has no negative entry. -/
module

public import proofs.«01_k».proof.Defs
public import Idealize.ShloMosaic.PureOps.Ideal.Laws

@[expose] public section

noncomputable section

namespace Cert.Pre_weights.Hand

open Cert.Pre_weights Idealize.ShloMosaic

theorem spread : S_.BroadcastsInDim S32x1000000 (![] : Fin 0 → Fin S32x1000000.rank) := by decide
theorem collapse : S32x1000000.ReducesTo [0, 1] S_ := by decide
theorem one_entry : 0 < S_.numel := by decide

/-- The shapes of the precondition's operations fit. -/
theorem shapes_fit : Cert.Pre_weights.Facts := ⟨spread, collapse, one_entry⟩

/-- A conjunction of bits over a list is one only if every one of them is. -/
theorem and_fold {ι : Type} (x : ι → BitVec 1) (L : List ι) : ∀ a : BitVec 1, L.foldl (fun r i => IntOp.andi r (x i)) a = 1#1 →
    a = 1#1 ∧ ∀ i ∈ L, x i = 1#1 := by
  induction L with
  | nil => exact fun a h => ⟨h, fun i hi => absurd hi List.not_mem_nil⟩
  | cons k L ih =>
    intro a h
    obtain ⟨h1, h2⟩ := ih _ h
    have h3 : a = 1#1 ∧ x k = 1#1 := (by decide : ∀ b c : BitVec 1, IntOp.andi b c = 1#1 → b = 1#1 ∧ c = 1#1) a (x k) h1
    refine ⟨h3.1, fun i hi => ?_⟩
    rcases List.mem_cons.1 hi with rfl | hi
    · exact h3.2
    · exact h2 i hi

/-- A reduction by conjunction is one at an index only if every entry the index collects is. -/
theorem and_reduce {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  rw [Host.reduce_eq_foldl] at e
  refine (and_fold x _ _ e).2 i (List.mem_filter.2 ⟨List.mem_map.2 ⟨s.rowMajor i, List.mem_finRange _, ?_⟩, decide_eq_true hi⟩)
  rw [Equiv.symm_apply_apply]

/-- The comparison with zero, at one entry. -/
theorem nonneg_of_cmp (x : FVec Ideal S32x1000000 .f32) (hb : S_.BroadcastsInDim S32x1000000 (![] : Fin 0 → Fin S32x1000000.rank)) (i : S32x1000000.Idx)
    (h : cmpf .oge x (broadcastInDim S32x1000000 ![] hb (constant (F := Ideal) S_ .f32 0x00000000#32)) i = 1#1) : (0 : EReal) ≤ x i := by
  have h' : BitVec.ofBool (decide (Ideal.ofBits .f32 0x00000000#32 ≤ x i)) = 1#1 := h
  rw [Ideal.ofBits_zero_f32] at h'
  by_contra hn
  rw [decide_eq_false hn] at h'
  exact absurd h' (by decide)

/-- An array the precondition holds of has no negative entry. -/
theorem nonneg [Cert.Pre_weights.Facts] (x : FVec Ideal S32x1000000 .f32) (h : fn (F := Ideal) x = fun _ => 1#1) (i : S32x1000000.Idx) : (0 : EReal) ≤ x i := by
  have e : fn (F := Ideal) x = Host.reduce IntOp.andi (cmpf .oge x (broadcastInDim S32x1000000 ![] Facts.bcast_S_S32x1000000 (constant (F := Ideal) S_ .f32 0x00000000#32)))
      (constantI S_ 1 1#1) Facts.reducesTo_S32x1000000_S_d0_1 Facts.h_S_ := by
    delta fn
    with_reducible rfl
  have h0 := congrFun (e.symm.trans h) (fun a => a.elim0)
  exact nonneg_of_cmp x Facts.bcast_S_S32x1000000 i (and_reduce _ _ _ _ _ h0 i (funext fun a => a.elim0))

end Cert.Pre_weights.Hand
end
-- ==== Proof.lean ====
/- The certificate: the three programs run to their ends, their argument unchanged and every counter at zero; the ideal
   kernel is the kernel's own text; and on the extended reals the kernel returns what the reference returns for every array
   of weights. -/
module

public import proofs.«01_k».proof.Defs
public import proofs.«01_k».proof.Proof.KernelFrame
public import proofs.«01_k».proof.Proof.Output
public import proofs.«01_k».proof.Proof.RefRun
public import proofs.«01_k».proof.Proof.RefBest
public import proofs.«01_k».proof.Proof.Report
public import proofs.«01_k».proof.Proof.Weights
public import Idealize.ShloMosaic.Adequacy
public import Idealize.ShloMosaic.Init

@[expose] public section

noncomputable section

namespace Cert.Proof

open Idealize.ShloMosaic Idealize.SL.Sem Cert.Kernel

/-- The ideal kernel's frame. -/
theorem kernelIdeal_ends (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run (Cert.KernelIdeal.defs (F := Ideal)) _ _).mono (fun _ h => ⟨fun c => (h.1 c).2, h.2⟩) (Cert.KernelIdeal.Hand.run_out m g)

/-- The reference's frame. -/
theorem reference_ends (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run (Cert.ReferenceIdeal.defs (F := Ideal)) _ _).mono (fun _ h => ⟨fun c => (h.1 c).2, h.2⟩) (Cert.ReferenceIdeal.Hand.run m g)

/-- What the samples of an array of weights are: the reference's value. -/
def picks (X : FVec Ideal Cert.ReferenceIdeal.S32x1000000 .f32) : (⟨Cert.ReferenceIdeal.S32x5, .i32⟩ : BufTy).Contents (Elt Ideal) :=
  Cert.ReferenceIdeal.Hand.best (Cert.ReferenceIdeal.Hand.scores
    (Cert.ReferenceIdeal.Hand.uniformsR (Cert.ReferenceIdeal.Hand.zKey5 Ideal).1 (Cert.ReferenceIdeal.Hand.zKey5 Ideal).2) (Cert.ReferenceIdeal.Hand.logits X))

/-- The kernel's run ends with the reference's value when no weight is negative. -/
theorem kernelIdeal_picks (m : (ℓ : Loc Cert.KernelIdeal.nD Cert.KernelIdeal.τ Cert.KernelIdeal.sig) → Buf (Elt Ideal) ℓ) (g : Dev Cert.KernelIdeal.nD → PrngReg)
    (X : Dev Cert.KernelIdeal.nD → FVec Ideal Cert.ReferenceIdeal.S32x1000000 .f32)
    (hX : ∀ c : Dev Cert.KernelIdeal.nD, m ((c.tc : Thread Cert.KernelIdeal.nD Cert.KernelIdeal.τ).loc Cert.KernelIdeal.main_arg0) = X c)
    (hpos : ∀ c i, (0 : EReal) ≤ X c i) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0) = picks (X c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) := by
  refine (θ_run (Cert.KernelIdeal.defs (F := Ideal)) _ _).mono (fun r h c => ⟨?_, (h.1 c).2⟩) (Cert.KernelIdeal.Hand.run_out m g)
  refine funext fun (j : Cert.KernelIdeal.S32x5.Idx) => ?_
  obtain ⟨q, s, rfl⟩ : ∃ (q : Fin 32) (s : Fin 5), j = Fin.cons q (Fin.cons s fun a => a.elim0) := by
    refine ⟨j (0 : Fin 2), j (1 : Fin 2), funext fun a => ?_⟩
    refine Fin.cases ?_ (fun a => Fin.cases ?_ (fun a => a.elim0) a) a
    · rfl
    · rfl
  obtain ⟨W₀, hW⟩ := (h.1 c).1 q
  obtain ⟨J, hJ⟩ := Cert.Draws.exists_best (by decide)
    (Cert.KernelIdeal.Hand.scoreAt (fun k => X c (Fin.cons q (Fin.cons k fun a => a.elim0))) q s.val)
  refine (hW s).trans ?_
  refine (Cert.KernelIdeal.Hand.row_report (Cert.KernelIdeal.Hand.inp m c) (fun k => X c (Fin.cons q (Fin.cons k fun a => a.elim0))) q ?_
    (fun k => hpos c _) W₀ s J hJ).trans ?_
  · intro b k j hj
    rw [Cert.KernelIdeal.Hand.inp_apply m c q b k j hj]
    exact congrFun (hX c) _
  · exact (Cert.ReferenceIdeal.Hand.ref_report (X c) q s (fun k => hpos c _) J hJ).symm

/-- On the extended reals the kernel and the reference return the same samples of every array of weights. -/
theorem same_picks : @Cert.algebraic_KernelIdeal_ReferenceIdeal_pre_weights Cert.KernelIdeal.Gen.facts Cert.ReferenceIdeal.Gen.facts Cert.Pre_weights.Hand.shapes_fit := by
  intro m g m' g' hpre harg
  refine ⟨fun c => picks (m ((c.tc : Thread Cert.KernelIdeal.nD Cert.KernelIdeal.τ).loc Cert.KernelIdeal.main_arg0)), ?_, ?_⟩
  · exact kernelIdeal_picks m g (fun c => m ((c.tc : Thread Cert.KernelIdeal.nD Cert.KernelIdeal.τ).loc Cert.KernelIdeal.main_arg0)) (fun c => rfl)
      (fun c i => @Cert.Pre_weights.Hand.nonneg Cert.Pre_weights.Hand.shapes_fit _ (hpre c) i)
  · refine (θ_run (Cert.ReferenceIdeal.defs (F := Ideal)) _ _).mono (fun r h c => ⟨?_, (h.1 c).2⟩) (Cert.ReferenceIdeal.Hand.run m' g')
    exact (h.1 c).1.trans (congrArg picks (harg c))

theorem claim : Cert.Claim := ⟨Cert.Kernel.Gen.facts, Cert.KernelIdeal.Gen.facts, Cert.ReferenceIdeal.Gen.facts, Cert.Pre_weights.Hand.shapes_fit,
  fun m g _ => Cert.Kernel.Hand.frame_run m g, fun m g _ => kernelIdeal_ends m g, fun m g _ => kernelIdeal_ends m g,
  fun m g _ => reference_ends m g, fun m g _ => reference_ends m g, trivial, same_picks⟩

end Cert.Proof

end
